-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S2x4096x16384 : Shape := ⟨3, ![2, 4096, 16384]⟩
abbrev S16384 : Shape := ⟨1, ![16384]⟩
abbrev S16384x17408 : Shape := ⟨2, ![16384, 17408]⟩
abbrev S17408 : Shape := ⟨1, ![17408]⟩
abbrev S2x4096 : Shape := ⟨2, ![2, 4096]⟩
abbrev S_ : Shape := ⟨0, ![]⟩
abbrev S2x4096x1 : Shape := ⟨3, ![2, 4096, 1]⟩
abbrev S1x1x16384 : Shape := ⟨3, ![1, 1, 16384]⟩

class Facts : Prop where
  bitsLt_bf16_f32 : FTy.bits .bf16 < FTy.bits .f32
  reducesTo_S2x4096x16384_S2x4096_d2 : S2x4096x16384.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x16384_0_1_2 : S2x4096x1.BroadcastsInDim S2x4096x16384 (![0, 1, 2] : Fin 3 → Fin S2x4096x16384.rank)
  bcast_S16384_S1x1x16384_2 : S16384.BroadcastsInDim S1x1x16384 (![2] : Fin 1 → Fin S1x1x16384.rank)
  bcast_S1x1x16384_S2x4096x16384_0_1_2 : S1x1x16384.BroadcastsInDim S2x4096x16384 (![0, 1, 2] : Fin 3 → Fin S2x4096x16384.rank)
  bcast_S_S2x4096 : S_.BroadcastsInDim S2x4096 (![] : Fin 0 → Fin S2x4096.rank)

variable [Facts]

def fn_part1 {F : FTy → Type} [FloatOps F] (main_v15 : FVec F S2x4096 .f32) (main_v17 : FVec F S2x4096 .f32) (main_cst_4 : FVec F S_ .f32) : IVec S2x4096 1 :=
  let main_v18 : FVec F S2x4096 .f32 := broadcastInDim S2x4096 ![] bcast_S_S2x4096 main_cst_4
  let main_v19 : IVec S2x4096 1 := cmpf .oeq main_v15 main_v18
  let main_cst_5 : FVec F S_ .f32 := constant S_ .f32 0x00400000#32
  let main_v20 : FVec F S2x4096 .f32 := broadcastInDim S2x4096 ![] bcast_S_S2x4096 main_cst_5
  let main_v21 : IVec S2x4096 1 := cmpf .oge main_v17 main_v20
  let main_cst_6 : FVec F S_ .f32 := constant S_ .f32 0x7E800000#32
  let main_v22 : FVec F S2x4096 .f32 := broadcastInDim S2x4096 ![] bcast_S_S2x4096 main_cst_6
  let main_v23 : IVec S2x4096 1 := cmpf .olt main_v17 main_v22
  let main_v24 : IVec S2x4096 1 := andi main_v21 main_v23
  let main_v25 : IVec S2x4096 1 := ori main_v19 main_v24
  main_v25

def fn {F : FTy → Type} [FloatOps F] (main_arg0 : FVec F S2x4096x16384 .bf16) (main_arg1 : FVec F S16384 .f32) (main_arg2 : FVec F S16384x17408 .fp8e4m3) (main_arg3 : FVec F S17408 .f32) (main_arg4 : IVec S2x4096 32) : IVec S2x4096 1 :=
  let main_v0 : FVec F S2x4096x16384 .f32 := (extf .f32 · bitsLt_bf16_f32) main_arg0
  let main_v1 : FVec F S2x4096x16384 .f32 := mulf main_v0 main_v0
  let main_cst : FVec F S_ .f32 := constant S_ .f32 0x00000000#32
  let main_v2 : FVec F S2x4096 .f32 := (fun x v => Host.reduceAdd x v reducesTo_S2x4096x16384_S2x4096_d2 h_S_) main_v1 main_cst
  let main_v3 : FVec F S2x4096x1 .f32 := broadcastInDim S2x4096x1 ![0, 1] bcast_S2x4096_S2x4096x1_0_1 main_v2
  let main_cst_0 : FVec F S_ .f32 := constant S_ .f32 0x46800000#32
  let main_v4 : FVec F S2x4096x1 .f32 := broadcastInDim S2x4096x1 ![] bcast_S_S2x4096x1 main_cst_0
  let main_v5 : FVec F S2x4096x1 .f32 := Host.divf main_v3 main_v4
  let main_cst_1 : FVec F S_ .f32 := constant S_ .f32 0x3727C5AC#32
  let main_v6 : FVec F S2x4096x1 .f32 := broadcastInDim S2x4096x1 ![] bcast_S_S2x4096x1 main_cst_1
  let main_v7 : FVec F S2x4096x1 .f32 := addf main_v5 main_v6
  let main_v8 : FVec F S2x4096x1 .f32 := Host.rsqrt main_v7
  let main_v9 : FVec F S2x4096x16384 .f32 := broadcastInDim S2x4096x16384 ![0, 1, 2] bcast_S2x4096x1_S2x4096x16384_0_1_2 main_v8
  let main_v10 : FVec F S2x4096x16384 .f32 := mulf main_v0 main_v9
  let main_v11 : FVec F S1x1x16384 .f32 := broadcastInDim S1x1x16384 ![2] bcast_S16384_S1x1x16384_2 main_arg1
  let main_v12 : FVec F S2x4096x16384 .f32 := broadcastInDim S2x4096x16384 ![0, 1, 2] bcast_S1x1x16384_S2x4096x16384_0_1_2 main_v11
  let main_v13 : FVec F S2x4096x16384 .f32 := mulf main_v10 main_v12
  let main_v14 : FVec F S2x4096x16384 .f32 := Host.absf main_v13
  let main_cst_2 : FVec F S_ .f32 := constant S_ .f32 0xFF800000#32
  let main_v15 : FVec F S2x4096 .f32 := (fun x v => Host.reduce FloatOps.maximumf x v reducesTo_S2x4096x16384_S2x4096_d2 h_S_) main_v14 main_cst_2
  let main_cst_3 : FVec F S_ .f32 := constant S_ .f32 0x3B124925#32
  let main_v16 : FVec F S2x4096 .f32 := broadcastInDim S2x4096 ![] bcast_S_S2x4096 main_cst_3
  let main_v17 : FVec F S2x4096 .f32 := mulf main_v15 main_v16
  let main_cst_4 : FVec F S_ .f32 := constant S_ .f32 0x00000000#32
  fn_part1 (F := F) main_v15 main_v17 main_cst_4
-- ==== Kernel.lean ====
abbrev S2x4096x16384 : Shape := ⟨3, ![2, 4096, 16384]⟩
abbrev S16384 : Shape := ⟨1, ![16384]⟩
abbrev S16384x17408 : Shape := ⟨2, ![16384, 17408]⟩
abbrev S17408 : Shape := ⟨1, ![17408]⟩
abbrev S2x4096 : Shape := ⟨2, ![2, 4096]⟩
abbrev S8192x16384 : Shape := ⟨2, ![8192, 16384]⟩
abbrev S1x16384 : Shape := ⟨2, ![1, 16384]⟩
abbrev S8192x1 : Shape := ⟨2, ![8192, 1]⟩
abbrev S128x16384 : Shape := ⟨2, ![128, 16384]⟩
abbrev S128x1 : Shape := ⟨2, ![128, 1]⟩
abbrev S128 : Shape := ⟨1, ![128]⟩
abbrev S8192x128 : Shape := ⟨2, ![8192, 128]⟩
abbrev S1024x1 : Shape := ⟨2, ![1024, 1]⟩
abbrev S1024x128 : Shape := ⟨2, ![1024, 128]⟩
abbrev S1x128 : Shape := ⟨2, ![1, 128]⟩
abbrev S1x17408 : Shape := ⟨2, ![1, 17408]⟩
abbrev S8192x17408 : Shape := ⟨2, ![8192, 17408]⟩
abbrev S1024x16384 : Shape := ⟨2, ![1024, 16384]⟩
abbrev S16384x512 : Shape := ⟨2, ![16384, 512]⟩
abbrev S1x512 : Shape := ⟨2, ![1, 512]⟩
abbrev S1024x512 : Shape := ⟨2, ![1024, 512]⟩
abbrev S8192x15360 : Shape := ⟨2, ![8192, 15360]⟩
abbrev S2x4096x120x128 : Shape := ⟨4, ![2, 4096, 120, 128]⟩
abbrev S8192x1024 : Shape := ⟨2, ![8192, 1024]⟩
abbrev S2x4096x8x128 : Shape := ⟨4, ![2, 4096, 8, 128]⟩

abbrev nBuf : Space → Nat
  | .hbm => 22
  | .vmem => 27
  | .smem => 0
  | _ => 0

abbrev bufTy : (tb : Table) → Fin (tcTables nBuf tb) → BufTy
  | .hbm, ⟨0, _⟩ => ⟨S2x4096x16384, .bf16⟩
  | .hbm, ⟨1, _⟩ => ⟨S16384, .f32⟩
  | .hbm, ⟨2, _⟩ => ⟨S16384x17408, .fp8e4m3⟩
  | .hbm, ⟨3, _⟩ => ⟨S17408, .f32⟩
  | .hbm, ⟨4, _⟩ => ⟨S2x4096, .i32⟩
  | .hbm, ⟨5, _⟩ => ⟨S8192x16384, .bf16⟩
  | .hbm, ⟨6, _⟩ => ⟨S1x16384, .f32⟩
  | .hbm, ⟨7, _⟩ => ⟨S8192x16384, .fp8e4m3⟩
  | .hbm, ⟨8, _⟩ => ⟨S8192x1, .f32⟩
  | .hbm, ⟨9, _⟩ => ⟨S8192x1, .i32⟩
  | .hbm, ⟨10, _⟩ => ⟨S8192x128, .f32⟩
  | .hbm, ⟨11, _⟩ => ⟨S8192x128, .f32⟩
  | .hbm, ⟨12, _⟩ => ⟨S1x17408, .f32⟩
  | .hbm, ⟨13, _⟩ => ⟨S8192x17408, .bf16⟩
  | .hbm, ⟨14, _⟩ => ⟨S8192x15360, .bf16⟩
  | .hbm, ⟨15, _⟩ => ⟨S2x4096x120x128, .bf16⟩
  | .hbm, ⟨16, _⟩ => ⟨S8192x1024, .bf16⟩
  | .hbm, ⟨17, _⟩ => ⟨S2x4096x8x128, .bf16⟩
  | .hbm, ⟨18, _⟩ => ⟨S8192x1024, .bf16⟩
  | .hbm, ⟨19, _⟩ => ⟨S2x4096x8x128, .bf16⟩
  | .hbm, ⟨20, _⟩ => ⟨S2x4096x16384, .fp8e4m3⟩
  | .hbm, ⟨21, _⟩ => ⟨S2x4096, .f32⟩
  | .local _ .vmem, ⟨0, _⟩ => ⟨S128x16384, .bf16⟩
  | .local _ .vmem, ⟨1, _⟩ => ⟨S128x16384, .bf16⟩
  | .local _ .vmem, ⟨2, _⟩ => ⟨S1x16384, .f32⟩
  | .local _ .vmem, ⟨3, _⟩ => ⟨S128x16384, .fp8e4m3⟩
  | .local _ .vmem, ⟨4, _⟩ => ⟨S128x16384, .fp8e4m3⟩
  | .local _ .vmem, ⟨5, _⟩ => ⟨S128x1, .f32⟩
  | .local _ .vmem, ⟨6, _⟩ => ⟨S128x1, .f32⟩
  | .local _ .vmem, ⟨7, _⟩ => ⟨S1024x1, .i32⟩
  | .local _ .vmem, ⟨8, _⟩ => ⟨S1024x1, .i32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x16384, .fp8e4m3⟩
  | .local _ .vmem, ⟨14, _⟩ => ⟨S1024x16384, .fp8e4m3⟩
  | .local _ .vmem, ⟨15, _⟩ => ⟨S16384x512, .fp8e4m3⟩
  | .local _ .vmem, ⟨16, _⟩ => ⟨S16384x512, .fp8e4m3⟩
  | .local _ .vmem, ⟨17, _⟩ => ⟨S1024x1, .f32⟩
  | .local _ .vmem, ⟨18, _⟩ => ⟨S1024x1, .f32⟩
  | .local _ .vmem, ⟨19, _⟩ => ⟨S1x512, .f32⟩
  | .local _ .vmem, ⟨20, _⟩ => ⟨S1x512, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x512, .bf16⟩
  | .local _ .vmem, ⟨26, _⟩ => ⟨S1024x512, .bf16⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 34], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x16384 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S16384x512 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S2x4096x16384 : Shape := ⟨3, ![2, 4096, 16384]⟩
abbrev S16384 : Shape := ⟨1, ![16384]⟩
abbrev S16384x17408 : Shape := ⟨2, ![16384, 17408]⟩
abbrev S17408 : Shape := ⟨1, ![17408]⟩
abbrev S2x4096 : Shape := ⟨2, ![2, 4096]⟩
abbrev S_ : Shape := ⟨0, ![]⟩
abbrev S2x4096x1 : Shape := ⟨3, ![2, 4096, 1]⟩
abbrev S1x1x16384 : Shape := ⟨3, ![1, 1, 16384]⟩
abbrev S8192x16384 : Shape := ⟨2, ![8192, 16384]⟩
abbrev S8192x17408 : Shape := ⟨2, ![8192, 17408]⟩
abbrev S2x4096x17408 : Shape := ⟨3, ![2, 4096, 17408]⟩
abbrev S1x1x17408 : Shape := ⟨3, ![1, 1, 17408]⟩
abbrev S2x4096x15360 : Shape := ⟨3, ![2, 4096, 15360]⟩
abbrev S2x4096x120x128 : Shape := ⟨4, ![2, 4096, 120, 128]⟩
abbrev S2x4096x1024 : Shape := ⟨3, ![2, 4096, 1024]⟩
abbrev S2x4096x8x128 : Shape := ⟨4, ![2, 4096, 8, 128]⟩
abbrev S64 : Shape := ⟨1, ![64]⟩
abbrev S1x1x64 : Shape := ⟨3, ![1, 1, 64]⟩
abbrev S2x4096x64 : Shape := ⟨3, ![2, 4096, 64]⟩
abbrev S2x4096x1x64 : Shape := ⟨4, ![2, 4096, 1, 64]⟩
abbrev S2x4096x120x64 : Shape := ⟨4, ![2, 4096, 120, 64]⟩
abbrev S2x4096x8x64 : Shape := ⟨4, ![2, 4096, 8, 64]⟩

abbrev nBuf : Space → Nat
  | .hbm => 125
  | .vmem => 4
  | .smem => 0
  | _ => 0

abbrev bufTy : (tb : Table) → Fin (tcTables nBuf tb) → BufTy
  | .hbm, ⟨0, _⟩ => ⟨S2x4096x16384, .bf16⟩
  | .hbm, ⟨1, _⟩ => ⟨S16384, .f32⟩
  | .hbm, ⟨2, _⟩ => ⟨S16384x17408, .fp8e4m3⟩
  | .hbm, ⟨3, _⟩ => ⟨S17408, .f32⟩
  | .hbm, ⟨4, _⟩ => ⟨S2x4096, .i32⟩
  | .hbm, ⟨5, _⟩ => ⟨S2x4096x16384, .f32⟩
  | .hbm, ⟨6, _⟩ => ⟨S2x4096x16384, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x16384, .f32⟩
  | .hbm, ⟨18, _⟩ => ⟨S2x4096x16384, .f32⟩
  | .hbm, ⟨19, _⟩ => ⟨S1x1x16384, .f32⟩
  | .hbm, ⟨20, _⟩ => ⟨S2x4096x16384, .f32⟩
  | .hbm, ⟨21, _⟩ => ⟨S2x4096x16384, .f32⟩
  | .hbm, ⟨22, _⟩ => ⟨S2x4096x16384, .f32⟩
  | .hbm, ⟨23, _⟩ => ⟨S_, .f32⟩
  | .hbm, ⟨24, _⟩ => ⟨S2x4096, .f32⟩
  | .hbm, ⟨25, _⟩ => ⟨S_, .f32⟩
  | .hbm, ⟨26, _⟩ => ⟨S2x4096, .f32⟩
  | .hbm, ⟨27, _⟩ => ⟨S_, .f32⟩
  | .hbm, ⟨28, _⟩ => ⟨S2x4096, .f32⟩
  | .hbm, ⟨29, _⟩ => ⟨S2x4096, .f32⟩
  | .hbm, ⟨30, _⟩ => ⟨S2x4096, .f32⟩
  | .hbm, ⟨31, _⟩ => ⟨S2x4096, .f32⟩
  | .hbm, ⟨32, _⟩ => ⟨S2x4096, .f32⟩
  | .hbm, ⟨33, _⟩ => ⟨S_, .f32⟩
  | .hbm, ⟨34, _⟩ => ⟨S2x4096, .f32⟩
  | .hbm, ⟨35, _⟩ => ⟨S2x4096, .i1⟩
  | .hbm, ⟨36, _⟩ => ⟨S2x4096, .f32⟩
  | .hbm, ⟨37, _⟩ => ⟨S_, .f32⟩
  | .hbm, ⟨38, _⟩ => ⟨S2x4096, .f32⟩
  | .hbm, ⟨39, _⟩ => ⟨S2x4096, .f32⟩
  | .hbm, ⟨40, _⟩ => ⟨S_, .f32⟩
  | .hbm, ⟨41, _⟩ => ⟨S_, .f32⟩
  | .hbm, ⟨42, _⟩ => ⟨S2x4096, .f32⟩
  | .hbm, ⟨43, _⟩ => ⟨S2x4096, .f32⟩
  | .hbm, ⟨44, _⟩ => ⟨S2x4096, .f32⟩
  | .hbm, ⟨45, _⟩ => ⟨S2x4096, .f32⟩
  | .hbm, ⟨46, _⟩ => ⟨S2x4096, .f32⟩
  | .hbm, ⟨47, _⟩ => ⟨S2x4096x1, .f32⟩
  | .hbm, ⟨48, _⟩ => ⟨S2x4096x16384, .f32⟩
  | .hbm, ⟨49, _⟩ => ⟨S2x4096x16384, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x4096x16384, .f32⟩
  | .hbm, ⟨54, _⟩ => ⟨S2x4096x16384, .f32⟩
  | .hbm, ⟨55, _⟩ => ⟨S_, .f32⟩
  | .hbm, ⟨56, _⟩ => ⟨S2x4096x16384, .f32⟩
  | .hbm, ⟨57, _⟩ => ⟨S2x4096x16384, .f32⟩
  | .hbm, ⟨58, _⟩ => ⟨S8192x16384, .f32⟩
  | .hbm, ⟨59, _⟩ => ⟨S8192x16384, .fp8e4m3⟩
  | .hbm, ⟨60, _⟩ => ⟨S8192x17408, .f32⟩
  | .hbm, ⟨61, _⟩ => ⟨S2x4096x17408, .f32⟩
  | .hbm, ⟨62, _⟩ => ⟨S2x4096x1, .f32⟩
  | .hbm, ⟨63, _⟩ => ⟨S2x4096x17408, .f32⟩
  | .hbm, ⟨64, _⟩ => ⟨S2x4096x17408, .f32⟩
  | .hbm, ⟨65, _⟩ => ⟨S1x1x17408, .f32⟩
  | .hbm, ⟨66, _⟩ => ⟨S2x4096x17408, .f32⟩
  | .hbm, ⟨67, _⟩ => ⟨S2x4096x17408, .f32⟩
  | .hbm, ⟨68, _⟩ => ⟨S2x4096x15360, .f32⟩
  | .hbm, ⟨69, _⟩ => ⟨S2x4096x120x128, .f32⟩
  | .hbm, ⟨70, _⟩ => ⟨S2x4096x1024, .f32⟩
  | .hbm, ⟨71, _⟩ => ⟨S2x4096x8x128, .f32⟩
  | .hbm, ⟨72, _⟩ => ⟨S2x4096x1024, .f32⟩
  | .hbm, ⟨73, _⟩ => ⟨S2x4096x8x128, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S2x4096, .f32⟩
  | .hbm, ⟨86, _⟩ => ⟨S2x4096x1, .f32⟩
  | .hbm, ⟨87, _⟩ => ⟨S1x1x64, .f32⟩
  | .hbm, ⟨88, _⟩ => ⟨S2x4096x64, .f32⟩
  | .hbm, ⟨89, _⟩ => ⟨S2x4096x64, .f32⟩
  | .hbm, ⟨90, _⟩ => ⟨S2x4096x64, .f32⟩
  | .hbm, ⟨91, _⟩ => ⟨S2x4096x64, .f32⟩
  | .hbm, ⟨92, _⟩ => ⟨S2x4096x1x64, .f32⟩
  | .hbm, ⟨93, _⟩ => ⟨S2x4096x64, .f32⟩
  | .hbm, ⟨94, _⟩ => ⟨S2x4096x1x64, .f32⟩
  | .hbm, ⟨95, _⟩ => ⟨S2x4096x120x64, .f32⟩
  | .hbm, ⟨96, _⟩ => ⟨S2x4096x120x64, .f32⟩
  | .hbm, ⟨97, _⟩ => ⟨S2x4096x120x64, .f32⟩
  | .hbm, ⟨98, _⟩ => ⟨S2x4096x120x64, .f32⟩
  | .hbm, ⟨99, _⟩ => ⟨S2x4096x120x64, .f32⟩
  | .hbm, ⟨100, _⟩ => ⟨S2x4096x120x64, .f32⟩
  | .hbm, ⟨101, _⟩ => ⟨S2x4096x120x64, .f32⟩
  | .hbm, ⟨102, _⟩ => ⟨S2x4096x120x64, .f32⟩
  | .hbm, ⟨103, _⟩ => ⟨S2x4096x120x64, .f32⟩
  | .hbm, ⟨104, _⟩ => ⟨S2x4096x120x64, .f32⟩
  | .hbm, ⟨105, _⟩ => ⟨S2x4096x120x64, .f32⟩
  | .hbm, ⟨106, _⟩ => ⟨S2x4096x120x64, .f32⟩
  | .hbm, ⟨107, _⟩ => ⟨S2x4096x120x128, .f32⟩
  | .hbm, ⟨108, _⟩ => ⟨S2x4096x120x128, .bf16⟩
  | .hbm, ⟨109, _⟩ => ⟨S2x4096x8x64, .f32⟩
  | .hbm, ⟨110, _⟩ => ⟨S2x4096x8x64, .f32⟩
  | .hbm, ⟨111, _⟩ => ⟨S2x4096x8x64, .f32⟩
  | .hbm, ⟨112, _⟩ => ⟨S2x4096x8x64, .f32⟩
  | .hbm, ⟨113, _⟩ => ⟨S2x4096x8x64, .f32⟩
  | .hbm, ⟨114, _⟩ => ⟨S2x4096x8x64, .f32⟩
  | .hbm, ⟨115, _⟩ => ⟨S2x4096x8x64, .f32⟩
  | .hbm, ⟨116, _⟩ => ⟨S2x4096x8x64, .f32⟩
  | .hbm, ⟨117, _⟩ => ⟨S2x4096x8x64, .f32⟩
  | .hbm, ⟨118, _⟩ => ⟨S2x4096x8x64, .f32⟩
  | .hbm, ⟨119, _⟩ => ⟨S2x4096x8x64, .f32⟩
  | .hbm, ⟨120, _⟩ => ⟨S2x4096x8x64, .f32⟩
  | .hbm, ⟨121, _⟩ => ⟨S2x4096x8x128, .f32⟩
  | .hbm, ⟨122, _⟩ => ⟨S2x4096x8x128, .bf16⟩
  | .hbm, ⟨123, _⟩ => ⟨S2x4096x8x128, .bf16⟩
  | .hbm, ⟨124, _⟩ => ⟨S2x4096x16384, .fp8e4m3⟩
  | .local _ .vmem, ⟨0, _⟩ => ⟨S8192x16384, .f32⟩
  | .local _ .vmem, ⟨1, _⟩ => ⟨S16384x17408, .fp8e4m3⟩
  | .local _ .vmem, ⟨2, _⟩ => ⟨S8192x16384, .fp8e4m3⟩
  | .local _ .vmem, ⟨3, _⟩ => ⟨S8192x17408, .f32⟩
  | _, _ => ⟨S2x4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_cst_9 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x17408 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x17408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RunK.lean ====
/- THE KERNEL'S RUN, READ AT ITS RESULTS. The generated frame certificate runs the launch over its segments and reads the
   arguments off the last boundary's contents; the same run is read here at the result arrays as well. -/
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion, through plain definitions
set_option backward.isDefEq.respectTransparency.types false in
/-- Every weakly fair execution ends with each result array at the last boundary's contents and the arguments unchanged. -/
theorem run_values : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_v10) = W7 m ρ c (Proc.devRef .tc main_v10)
      ∧ r.2.mem ((c.tc : Thread nD τ).loc main_v12) = W7 m ρ c (Proc.devRef .tc main_v12)
      ∧ r.2.mem ((c.tc : Thread nD τ).loc main_v13) = W7 m ρ c (Proc.devRef .tc main_v13)
      ∧ r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v8 (by decide)),
       h c _ (mem_uc main_v10 (by decide)),
       h c _ (mem_uc main_v12 (by decide)),
       h c _ (mem_uc main_v13 (by decide)),
       h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Gen

end
-- ==== Proof.RunR.lean ====
/- THE REFERENCE'S RUN, READ AT ITS RESULTS. -/
module

public import proofs.«01_k».proof.Proof.Gen.ReferenceIdeal.Frame

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer's contents at the end of the run: after the lines that follow the region. -/
abbrev End (c : Dev nD) (b : Ref sig .tc) : Buf (Elt F) ((c : Thread nD τ).loc b) :=
  Pipeline.afterTail₀ cfgs (dats m) 0 (V0 m) [hostOps1] c b

/-- Every weakly fair execution ends with each result at those contents and the arguments unchanged. -/
theorem run_values : θ_run defs (onTc (τ := τ) (main (F := F))) ⟨m, fun _ => 0, ρ⟩ (fun r => ∀ c : Dev nD,
      r.2.mem ((c.tc : Thread nD τ).loc main_v81) = End m c main_v81
      ∧ r.2.mem ((c.tc : Thread nD τ).loc main_v95) = End m c main_v95
      ∧ r.2.mem ((c.tc : Thread nD τ).loc main_v96) = End m c main_v96
      ∧ r.2.mem ((c.tc : Thread nD τ).loc main_v97) = End m c main_v97
      ∧ r.2.mem ((c.tc : Thread nD τ).loc main_v28) = End m c main_v28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).2 main_v81 (Pipeline.mem_restRefs_of main_v81 (by decide) (by decide)),
      (h c).2 main_v95 (Pipeline.mem_restRefs_of main_v95 (by decide) (by decide)),
      (h c).2 main_v96 (Pipeline.mem_restRefs_of main_v96 (by decide) (by decide)),
      (h c).2 main_v97 (Pipeline.mem_restRefs_of main_v97 (by decide) (by decide)),
      (h c).2 main_v28 (Pipeline.mem_restRefs_of main_v28 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.ReferenceIdeal.Gen

end
-- ==== Proof.Exponent.lean ====
/- THE SCALE'S EXPONENT. The kernel finds the exponent field of a nonnegative number by a search over powers of two
   that are given by their words, and forms `2 ^ e` and `2 ^ (-e)` by their words; the reference takes
   `e = ⌊log t / log 2⌋ + 1` and the powers of two by `pow`. Over the extended reals the two agree on every number that
   the precondition admits. Scalars only: no program appears here. -/
module

public import Idealize.ShloMosaic.PureOps.Ideal
public import Mathlib.Analysis.SpecialFunctions.Pow.Real
public import Mathlib.Analysis.SpecialFunctions.Log.Basic

@[expose] public section

noncomputable section

namespace Cert.Exponent

open Idealize.ShloMosaic

/-- The extended real whose word has exponent field `f` and no fraction, for `f ≤ 255`. -/
def fieldValue (f : ℕ) : EReal :=
  if f = 0 then 0 else if f = 255 then ⊤ else (((2 : ℝ) ^ ((f : ℤ) - 127) : ℝ) : EReal)

theorem fieldValue_pow (f : ℕ) (h1 : 1 ≤ f) (h2 : f ≤ 254) :
    fieldValue f = (((2 : ℝ) ^ ((f : ℤ) - 127) : ℝ) : EReal) := by
  unfold fieldValue; rw [if_neg (by omega), if_neg (by omega)]

theorem fields_of_word : ∀ f : Fin 256,
    (IntOp.shli .vector (BitVec.ofNat 32 f.val) 23#32).extractLsb' 31 1 = 0#1
    ∧ ((IntOp.shli .vector (BitVec.ofNat 32 f.val) 23#32).extractLsb' 23 8).toNat = f.val
    ∧ ((IntOp.shli .vector (BitVec.ofNat 32 f.val) 23#32).extractLsb' 0 23).toNat = 0 := by
  decide +kernel

/-- The word `f <<< 23` denotes `fieldValue f`. -/
theorem ofBits_field (f : ℕ) (hf : f < 256) :
    Ideal.ofBits .f32 (IntOp.shli .vector (BitVec.ofNat 32 f) 23#32) = fieldValue f := by
  obtain ⟨hs, he, hm⟩ := fields_of_word ⟨f, hf⟩
  dsimp only at hs he hm
  show Ideal.ieee 8 23 (IntOp.shli .vector (BitVec.ofNat 32 f) 23#32) = _
  generalize IntOp.shli .vector (BitVec.ofNat 32 f) 23#32 = b at hs he hm
  unfold Ideal.ieee fieldValue
  simp only [Nat.reduceAdd, hs, he, hm]
  by_cases h255 : f = 255
  · subst h255; simp
  by_cases h0 : f = 0
  · subst h0; simp
  · have : ¬ f = 2 ^ 8 - 1 := by omega
    simp only [this, h0, h255, if_false]
    norm_num
    rw [← EReal.coe_mul]
    congr 1
    rw [show (8388608 : ℝ) = (2 : ℝ) ^ (23 : ℤ) by norm_num, ← zpow_add₀ (by norm_num)]
    congr 1; ring

/-- One step of the search: try the candidate `f + s`. -/
def fieldStep (t : EReal) (s f : BitVec 32) : BitVec 32 :=
  Scalar.select (Ideal.cmp .oge t (Ideal.ofBits .f32 (IntOp.shli .vector (IntOp.addi f s) 23#32))) (IntOp.addi f s) f

/-- `f` is a lower end and `f + 2 * s` an upper end of the search. -/
def Between (t : EReal) (f w : ℕ) : Prop :=
  fieldValue f ≤ t ∧ (f + w < 256 → t < fieldValue (f + w))

theorem fieldStep_spec (t : EReal) (s f : ℕ) (hs : f + 2 * s ≤ 256) (hs0 : 0 < s) (h : Between t f (2 * s)) :
    ∃ f', fieldStep t (BitVec.ofNat 32 s) (BitVec.ofNat 32 f) = BitVec.ofNat 32 f' ∧ f' + s ≤ 256 ∧ Between t f' s := by
  unfold fieldStep
  have ha : IntOp.addi (BitVec.ofNat 32 f) (BitVec.ofNat 32 s) = BitVec.ofNat 32 (f + s) := by
    unfold IntOp.addi; exact (BitVec.ofNat_add f s).symm
  rw [ha, ofBits_field (f + s) (by omega)]
  unfold Ideal.cmp Scalar.select
  by_cases hc : fieldValue (f + s) ≤ t
  · refine ⟨f + s, by simp [hc], by omega, hc, fun hlt => ?_⟩
    have := h.2 (by omega)
    rwa [show f + s + s = f + 2 * s by ring]
  · refine ⟨f, by simp [hc], by omega, h.1, fun hlt => not_le.mp hc⟩

/-- The eight steps, from field 0. -/
def field (t : EReal) : BitVec 32 :=
  fieldStep t 1#32 (fieldStep t 2#32 (fieldStep t 4#32 (fieldStep t 8#32 (fieldStep t 16#32 (fieldStep t 32#32
    (fieldStep t 64#32 (fieldStep t 128#32 0#32)))))))

/-- The search ends at the greatest field whose value is at most `t`. -/
theorem field_spec (t : EReal) (h : 0 ≤ t) : ∃ f, field t = BitVec.ofNat 32 f ∧ f ≤ 255 ∧ Between t f 1 := by
  have h0 : Between t 0 (2 * 128) := ⟨by simpa [fieldValue] using h, fun h => absurd h (by omega)⟩
  obtain ⟨f1, e1, b1, p1⟩ := fieldStep_spec t 128 0 (by omega) (by omega) h0
  obtain ⟨f2, e2, b2, p2⟩ := fieldStep_spec t 64 f1 (by omega) (by omega) p1
  obtain ⟨f3, e3, b3, p3⟩ := fieldStep_spec t 32 f2 (by omega) (by omega) p2
  obtain ⟨f4, e4, b4, p4⟩ := fieldStep_spec t 16 f3 (by omega) (by omega) p3
  obtain ⟨f5, e5, b5, p5⟩ := fieldStep_spec t 8 f4 (by omega) (by omega) p4
  obtain ⟨f6, e6, b6, p6⟩ := fieldStep_spec t 4 f5 (by omega) (by omega) p5
  obtain ⟨f7, e7, b7, p7⟩ := fieldStep_spec t 2 f6 (by omega) (by omega) p6
  obtain ⟨f8, e8, b8, p8⟩ := fieldStep_spec t 1 f7 (by omega) (by omega) p7
  refine ⟨f8, ?_, by omega, p8⟩
  unfold field
  rw [show (128#32 : BitVec 32) = BitVec.ofNat 32 128 from rfl, show (0#32 : BitVec 32) = BitVec.ofNat 32 0 from rfl, e1,
    show (64#32 : BitVec 32) = BitVec.ofNat 32 64 from rfl, e2, show (32#32 : BitVec 32) = BitVec.ofNat 32 32 from rfl, e3,
    show (16#32 : BitVec 32) = BitVec.ofNat 32 16 from rfl, e4, show (8#32 : BitVec 32) = BitVec.ofNat 32 8 from rfl, e5,
    show (4#32 : BitVec 32) = BitVec.ofNat 32 4 from rfl, e6, show (2#32 : BitVec 32) = BitVec.ofNat 32 2 from rfl, e7,
    show (1#32 : BitVec 32) = BitVec.ofNat 32 1 from rfl, e8]

/-- On `[2^-127, 2^126)` the field fixes the binade: `F - 126` is `⌊log t / log 2⌋ + 1`. -/
theorem field_binade (t : ℝ) (hlo : (2 : ℝ) ^ (-127 : ℤ) ≤ t) (hhi : t < (2 : ℝ) ^ (126 : ℤ)) :
    ∃ f : ℕ, field (t : EReal) = BitVec.ofNat 32 f ∧ f ≤ 252 ∧ ⌊Real.log t / Real.log 2⌋ + 1 = (f : ℤ) - 126 := by
  have ht : 0 < t := lt_of_lt_of_le (by positivity) hlo
  obtain ⟨f, hf, hle, hb, hu⟩ := field_spec (t : EReal) (by exact_mod_cast ht.le)
  have hmono : ∀ {a b : ℤ}, (2 : ℝ) ^ a < (2 : ℝ) ^ b → a < b := fun h => (zpow_lt_zpow_iff_right₀ (by norm_num)).mp h
  have hf252 : f ≤ 252 := by
    by_contra hcon
    by_cases h255 : f = 255
    · subst h255; simp [fieldValue] at hb
    · rw [fieldValue_pow f (by omega) (by omega), EReal.coe_le_coe_iff] at hb
      have := hmono (lt_of_le_of_lt hb hhi)
      omega
  have hup : t < (2 : ℝ) ^ ((f : ℤ) - 126) := by
    have := hu (by omega)
    rw [fieldValue_pow (f + 1) (by omega) (by omega), EReal.coe_lt_coe_iff] at this
    rwa [show (((f + 1 : ℕ) : ℤ) - 127) = (f : ℤ) - 126 by push_cast; ring] at this
  have hlow : (2 : ℝ) ^ ((f : ℤ) - 127) ≤ t := by
    by_cases h0 : f = 0
    · subst h0; simpa using hlo
    · rwa [fieldValue_pow f (by omega) (by omega), EReal.coe_le_coe_iff] at hb
  refine ⟨f, hf, hf252, ?_⟩
  have hl2 : 0 < Real.log 2 := Real.log_pos (by norm_num)
  have : ⌊Real.log t / Real.log 2⌋ = (f : ℤ) - 127 := by
    rw [Int.floor_eq_iff]
    constructor
    · rw [le_div_iff₀ hl2, ← Real.log_zpow]
      exact Real.log_le_log (by positivity) hlow
    · rw [div_lt_iff₀ hl2, show ((((f : ℤ) - 127 : ℤ) : ℝ) + 1) = (((f : ℤ) - 126 : ℤ) : ℝ) by push_cast; ring, ← Real.log_zpow]
      exact Real.log_lt_log ht hup
  rw [this]; ring

/-! ## The two scales -/

/-- The f32 nearest 1/448, by which both sides multiply. -/
def inv448 : EReal := Ideal.ofBits .f32 0x3B124925#32

/-- The kernel's exponent of a token whose largest magnitude is `a`. -/
def kexp (a : EReal) : BitVec 32 :=
  Scalar.select (Ideal.cmp .oeq a 0) 0#32 (IntOp.subi (field (a * inv448)) 126#32)

/-- The kernel's `2 ^ e`, by its word. -/
def kpow2 (e : BitVec 32) : EReal := Ideal.ofBits .f32 (IntOp.shli .vector (IntOp.addi e 127#32) 23#32)

/-- The reference's exponent, an extended real. -/
def rexp (a : EReal) : EReal :=
  Scalar.select (Ideal.cmp .oeq a 0) 0 (Ideal.liftRound Int.floor (Ideal.div (Ideal.log (a * inv448)) (Ideal.log 2)) + 1)

/-- What the precondition says of a token. -/
def InRange (a : EReal) : Prop :=
  a = 0 ∨ (((2 : ℝ) ^ (-127 : ℤ) : ℝ) : EReal) ≤ a * inv448 ∧ a * inv448 < (((2 : ℝ) ^ (126 : ℤ) : ℝ) : EReal)

theorem rpow2 (z : ℤ) : Ideal.pow 2 (((z : ℝ)) : EReal) = (((2 : ℝ) ^ z : ℝ) : EReal) := by
  show Ideal.pow ((2 : ℝ) : EReal) _ = _
  show ((Real.rpow 2 (z : ℝ) : ℝ) : EReal) = _
  congr 1
  exact Real.rpow_intCast 2 z

/-- Where the precondition holds there is one integer exponent on both sides. -/
theorem exp_agree (a : EReal) (h : InRange a) :
    ∃ f : ℕ, f ≤ 252 ∧ kexp a = IntOp.subi (BitVec.ofNat 32 f) 126#32 ∧ rexp a = ((((f : ℤ) - 126 : ℤ) : ℝ) : EReal) := by
  unfold kexp rexp
  by_cases ha : a = 0
  · exact ⟨126, by omega, by simp [ha, Ideal.cmp, Scalar.select, IntOp.subi], by simp [ha, Ideal.cmp, Scalar.select]⟩
  · rcases h with h | ⟨hlo, hhi⟩
    · exact absurd h ha
    · generalize a * inv448 = t at hlo hhi
      induction t using EReal.rec with
      | bot => simp at hlo
      | top => simp at hhi
      | coe t =>
        rw [EReal.coe_le_coe_iff] at hlo; rw [EReal.coe_lt_coe_iff] at hhi
        obtain ⟨f, hf, hle, hz⟩ := field_binade t hlo hhi
        refine ⟨f, hle, by simp [ha, Ideal.cmp, Scalar.select, hf], ?_⟩
        have ht : 0 < t := lt_of_lt_of_le (by positivity) hlo
        have hl2 : Real.log 2 ≠ 0 := (Real.log_pos (by norm_num)).ne'
        have e1 : Ideal.log (t : EReal) = ((Real.log t : ℝ) : EReal) := by
          show (if t ≤ 0 then ⊥ else ((Real.log t : ℝ) : EReal)) = _
          rw [if_neg (not_le.mpr ht)]
        have e2 : Ideal.log (2 : EReal) = ((Real.log 2 : ℝ) : EReal) := by
          show Ideal.log ((2 : ℝ) : EReal) = _
          show (if (2 : ℝ) ≤ 0 then ⊥ else ((Real.log 2 : ℝ) : EReal)) = _
          rw [if_neg (by norm_num)]
        have e3 : Ideal.div ((Real.log t : ℝ) : EReal) ((Real.log 2 : ℝ) : EReal) = ((Real.log t / Real.log 2 : ℝ) : EReal) := by
          unfold Ideal.div
          rw [if_neg (by exact_mod_cast hl2), ← EReal.coe_inv, ← EReal.coe_mul, div_eq_mul_inv]
        rw [e1, e2, e3]
        have e4 : Ideal.cmp .oeq a 0 = 0#1 := by simp [Ideal.cmp, ha]
        rw [e4]
        show Ideal.liftRound Int.floor ((Real.log t / Real.log 2 : ℝ) : EReal) + 1 = _
        show (((⌊Real.log t / Real.log 2⌋ : ℝ)) : EReal) + 1 = _
        rw [← hz]; push_cast; rfl

theorem word_fwd : ∀ f : Fin 253, IntOp.addi (IntOp.subi (BitVec.ofNat 32 f.val) 126#32) 127#32 = BitVec.ofNat 32 (f.val + 1) := by
  decide +kernel
theorem word_bwd : ∀ f : Fin 253, IntOp.addi (IntOp.subi 0#32 (IntOp.subi (BitVec.ofNat 32 f.val) 126#32)) 127#32
    = BitVec.ofNat 32 (253 - f.val) := by
  decide +kernel

/-- `2 ^ e` is one number on both sides, -/
theorem scale_agree (a : EReal) (h : InRange a) : kpow2 (kexp a) = Ideal.pow 2 (rexp a) := by
  obtain ⟨f, hf, hk, hr⟩ := exp_agree a h
  rw [hr, rpow2, hk]; unfold kpow2
  rw [word_fwd ⟨f, by omega⟩, ofBits_field _ (by dsimp only; omega), fieldValue_pow _ (by dsimp only; omega) (by dsimp only; omega)]
  congr 2; push_cast; ring

/-- and so is `2 ^ (-e)`. -/
theorem inv_agree (a : EReal) (h : InRange a) : kpow2 (IntOp.subi 0#32 (kexp a)) = Ideal.pow 2 (-(rexp a)) := by
  obtain ⟨f, hf, hk, hr⟩ := exp_agree a h
  have : -((((f : ℤ) - 126 : ℤ) : ℝ) : EReal) = (((126 - (f : ℤ) : ℤ) : ℝ) : EReal) := by
    rw [← EReal.coe_neg]; congr 1; push_cast; ring
  rw [hr, this, rpow2, hk]; unfold kpow2
  rw [word_bwd ⟨f, by omega⟩, ofBits_field _ (by dsimp only; omega), fieldValue_pow _ (by dsimp only; omega) (by dsimp only; omega)]
  congr 2; dsimp only; omega

end Cert.Exponent

end
-- ==== Proof.ExponentBlock.lean ====
/- THE EXPONENTS OF ONE BLOCK of 128 tokens: the kernel's column of exponents, token by token, is the scalar search of
   `Exponent` applied to the token's largest magnitude. -/
module

public import proofs.«01_k».proof.Proof.Gen.KernelIdeal.Frame
public import proofs.«01_k».proof.Proof.Exponent
public import Idealize.ShloMosaic.Lib.Pointwise

@[expose] public section

set_option maxRecDepth 16384

noncomputable section

namespace Cert.KernelIdeal.Gen

open Idealize.ShloMosaic Cert.Exponent

/-- One step of the field's search on a column of tokens. -/
def vstep (t : FVec Ideal S128x1 .f32) (s : BitVec 32) (f : IVec S128x1 32) : IVec S128x1 32 :=
  select (cmpf .oge t (bitcastToFloat .f32 (shli (addi f (broadcast S128x1 s)) (broadcast S128x1 23#32))))
    (addi f (broadcast S128x1 s)) f

theorem vstep_def (t : FVec Ideal S128x1 .f32) (s : BitVec 32) (f : IVec S128x1 32) :
    select (cmpf .oge t (bitcastToFloat .f32 (shli (addi f (broadcast S128x1 s)) (broadcast S128x1 23#32))))
      (addi f (broadcast S128x1 s)) f = vstep t s f := rfl

theorem vstep_at (t : FVec Ideal S128x1 .f32) (s : BitVec 32) (f : IVec S128x1 32) (i : S128x1.Idx) :
    vstep t s f i = fieldStep (t i) s (f i) := rfl

/-- The last five steps, and the exponent from the field. -/
theorem pay9_steps (a t : FVec Ideal S128x1 .f32) (c d : IVec S128x1 32) (e : IVec S128x1 1) :
    k0_pay9 (F := Ideal) a t c d e
      = select (cmpf .oeq a (broadcast S128x1 (Scalar.ofBits (F := Ideal) .f32 0x00000000#32))) (broadcast S128x1 0#32)
        (subi (vstep t 1#32 (vstep t 2#32 (vstep t 4#32 (vstep t 8#32 (vstep t 16#32 (select e d c))))))
          (broadcast S128x1 126#32)) := by
  unfold k0_pay9
  dsimp only
  rw [vstep_def t 16#32 (select e d c), vstep_def t 8#32, vstep_def t 4#32, vstep_def t 2#32, vstep_def t 1#32]

/-- The outer selection, at an index. -/
theorem exponent_at (a : FVec Ideal S128x1 .f32) (f : IVec S128x1 32) (i : S128x1.Idx) :
    select (cmpf .oeq a (broadcast S128x1 (Scalar.ofBits (F := Ideal) .f32 0x00000000#32))) (broadcast S128x1 0#32)
      (subi f (broadcast S128x1 126#32)) i
      = Scalar.select (Ideal.cmp .oeq (a i) 0) 0#32 (IntOp.subi (f i) 126#32) := by
  rw [← Ideal.ofBits_zero_f32]; rfl

theorem broadcast_at (w : BitVec 32) (i : S128x1.Idx) : broadcast S128x1 w i = w := rfl

variable (x0 : Vec Ideal S128x16384 .bf16) (x1 : Vec Ideal S1x16384 .f32)

/-- The first three steps. -/
theorem pay6_steps : k0_pay6 x0 x1 = vstep (k0_pay5 x0 x1) 64#32 (vstep (k0_pay5 x0 x1) 128#32 (broadcast S128x1 0#32)) := by
  unfold k0_pay6
  dsimp only
  rw [vstep_def _ 128#32, vstep_def _ 64#32]
theorem pay8_steps : select (k0_pay8 x0 x1) (k0_pay7 x0 x1) (k0_pay6 x0 x1) = vstep (k0_pay5 x0 x1) 32#32 (k0_pay6 x0 x1) := by
  unfold k0_pay8 k0_pay7
  dsimp only
  rw [vstep_def _ 32#32]
theorem scaled_at (a : FVec Ideal S128x1 .f32) (w : BitVec 32) (i : S128x1.Idx) :
    mulf a (broadcast S128x1 (Scalar.ofBits (F := Ideal) .f32 w)) i = a i * Ideal.ofBits .f32 w := rfl
theorem pay5_eq : k0_pay5 x0 x1 = mulf (k0_pay4 x0 x1) (broadcast S128x1 (Scalar.ofBits (F := Ideal) .f32 0x3B124925#32)) := by
  unfold k0_pay5
  with_reducible rfl
theorem pay5_at (i : S128x1.Idx) : k0_pay5 x0 x1 i = k0_pay4 x0 x1 i * inv448 := by
  rw [pay5_eq, scaled_at, inv448]

/-- A token's exponent is that of its largest magnitude. -/
theorem pay9_at (i : S128x1.Idx) :
    k0_pay9 (F := Ideal) (k0_pay4 x0 x1) (k0_pay5 x0 x1) (k0_pay6 x0 x1) (k0_pay7 x0 x1) (k0_pay8 x0 x1) i
      = kexp (k0_pay4 x0 x1 i) := by
  rw [pay9_steps, exponent_at, vstep_at, vstep_at, vstep_at, vstep_at, vstep_at, pay8_steps, vstep_at, pay6_steps, vstep_at,
    vstep_at, pay5_at, broadcast_at]
  unfold kexp field
  with_reducible rfl

end Cert.KernelIdeal.Gen

end
-- ==== Proof.Spec.lean ====
/- WHAT IS COMPUTED, for one token and one column, over the extended reals: the norm, the quantiser with either side's
   exponent, the projection of the codes, the rotary angle. Scalars and rows only: no program appears here. -/
module

public import proofs.«01_k».proof.Proof.Exponent

@[expose] public section

noncomputable section

namespace Cert.Spec

open Idealize.ShloMosaic Cert.Exponent

/-- A token's row after the norm: `x * rsqrt (mean of squares + 1e-5) * w`. -/
def normed (x w : Fin 16384 → EReal) (k : Fin 16384) : EReal :=
  x k * Ideal.rsqrt (Ideal.div (∑ j, x j * x j) (Ideal.ofBits .f32 0x46800000#32) + Ideal.ofBits .f32 0x3727C5AC#32) * w k

/-- A token's largest magnitude. -/
def amax (x w : Fin 16384 → EReal) : EReal :=
  Finset.univ.fold max (Ideal.ofBits .f32 0xFF800000#32) fun k => max (normed x w k) (-(normed x w k))

/-- A normed entry scaled by `inv` and cut to `[-448, 448]`. -/
def cut (inv n : EReal) : EReal :=
  min (Ideal.ofBits .f32 0x43E00000#32) (max (Ideal.ofBits .f32 0xC3E00000#32) (n * inv))

/-- The kernel's scale of a token, -/
def kscale (x w : Fin 16384 → EReal) : EReal := kpow2 (kexp (amax x w))
/-- and its codes. -/
def kcode (x w : Fin 16384 → EReal) (k : Fin 16384) : EReal := cut (kpow2 (IntOp.subi 0#32 (kexp (amax x w)))) (normed x w k)

/-- The reference's scale of a token, -/
def rscale (x w : Fin 16384 → EReal) : EReal := Ideal.pow 2 (rexp (amax x w))
/-- and its codes. -/
def rcode (x w : Fin 16384 → EReal) (k : Fin 16384) : EReal := cut (Ideal.pow 2 (-(rexp (amax x w)))) (normed x w k)

theorem kscale_eq (x w : Fin 16384 → EReal) (h : InRange (amax x w)) : kscale x w = rscale x w := scale_agree _ h
theorem kcode_eq (x w : Fin 16384 → EReal) (h : InRange (amax x w)) : kcode x w = rcode x w := by
  funext k; unfold kcode rcode; rw [inv_agree _ h]

/-- An entry of the projection: codes against a column, rescaled by the token's and the column's scales. -/
def proj (code col : Fin 16384 → EReal) (s ws : EReal) : EReal := (∑ k, code k * col k) * s * ws

/-- Column `l` of head `h` of 136. -/
def hcol (h : Fin 136) (l : Fin 128) : Fin 17408 := ⟨128 * h.val + l.val, by omega⟩

/-- A token's projection onto head `h`, of the kernel's codes and scale, -/
def khead (x w : Fin 16384 → EReal) (wq : Fin 16384 → Fin 17408 → EReal) (ws : Fin 17408 → EReal) (h : Fin 136) (l : Fin 128) : EReal :=
  proj (kcode x w) (fun j => wq j (hcol h l)) (kscale x w) (ws (hcol h l))
/-- and of the reference's. -/
def rhead (x w : Fin 16384 → EReal) (wq : Fin 16384 → Fin 17408 → EReal) (ws : Fin 17408 → EReal) (h : Fin 136) (l : Fin 128) : EReal :=
  proj (rcode x w) (fun j => wq j (hcol h l)) (rscale x w) (ws (hcol h l))

theorem khead_eq (x w : Fin 16384 → EReal) (wq : Fin 16384 → Fin 17408 → EReal) (ws : Fin 17408 → EReal) (h : InRange (amax x w)) :
    khead x w wq ws = rhead x w wq ws := by
  funext q l; unfold khead rhead; rw [kcode_eq x w h, kscale_eq x w h]

/-- The query head `h` of 120, the key head and the value head `h` of 8, among the 136. -/
def qh (h : Fin 120) : Fin 136 := ⟨h.val, by omega⟩
def kh (h : Fin 8) : Fin 136 := ⟨120 + h.val, by omega⟩
def vh (h : Fin 8) : Fin 136 := ⟨128 + h.val, by omega⟩

/-- The rotary angle of position `p` at frequency `l` of 64. -/
def angle (p : BitVec 32) (l : Fin 64) : EReal :=
  FloatOps.sitofp (F := Ideal) .f32 p * Ideal.pow (Ideal.ofBits .f32 0x48F42400#32)
    (Ideal.div (0 - Ideal.ofBits .f32 0x40000000#32 * FloatOps.sitofp (F := Ideal) .f32 (BitVec.ofNat 32 l.val))
      (Ideal.ofBits .f32 0x43000000#32))

/-- A lane's frequency: lanes 0 to 63 and 64 to 127 share the 64 frequencies. -/
def freq (l : Fin 128) : Fin 64 := ⟨l.val % 64, Nat.mod_lt _ (by norm_num)⟩

/-- The kernel's table of cosines, -/
def kcos (p : BitVec 32) (l : Fin 128) : EReal := Ideal.cos (angle p (freq l))
/-- and of sines, negated on the lower 64 lanes. -/
def ksin (p : BitVec 32) (l : Fin 128) : EReal :=
  Scalar.select (IntOp.cmpi .slt (BitVec.ofNat 32 l.val) 64#32) (0 - Ideal.sin (angle p (freq l))) (Ideal.sin (angle p (freq l)))

/-- The lane 64 below, around the head. -/
def across (l : Fin 128) : Fin 128 := ⟨(l.val + 128 - 64) % 128, Nat.mod_lt _ (by norm_num)⟩

/-- The kernel's rotation of a head. -/
def krot (p : BitVec 32) (y : Fin 128 → EReal) (l : Fin 128) : EReal := y l * kcos p l + y (across l) * ksin p l

/-- The reference's: `lo * cos - hi * sin` below, `hi * cos + lo * sin` above. -/
def rrot (p : BitVec 32) (y : Fin 128 → EReal) (l : Fin 128) : EReal :=
  if l.val < 64 then y l * Ideal.cos (angle p (freq l)) - y (across l) * Ideal.sin (angle p (freq l))
  else y l * Ideal.cos (angle p (freq l)) + y (across l) * Ideal.sin (angle p (freq l))

theorem lane_lt : ∀ l : Fin 128, IntOp.cmpi .slt (BitVec.ofNat 32 l.val) 64#32 = if l.val < 64 then 1#1 else 0#1 := by
  decide +kernel

/-- The two rotations are one. -/
theorem krot_eq (p : BitVec 32) (y : Fin 128 → EReal) (l : Fin 128) : krot p y l = rrot p y l := by
  unfold krot rrot kcos ksin
  rw [lane_lt]
  by_cases h : l.val < 64
  · rw [if_pos h, if_pos h]
    show _ + _ * (0 - _) = _
    rw [zero_sub, mul_neg, sub_eq_add_neg]
  · rw [if_neg h, if_neg h]; rfl

end Cert.Spec

end
-- ==== Proof.NormBlock.lean ====
/- ONE BLOCK OF THE NORM AND QUANTISER: 128 tokens of the kernel's first call, entry by entry, over the extended reals. -/
module

public import proofs.«01_k».proof.Proof.ExponentBlock
public import proofs.«01_k».proof.Proof.Spec
public import Idealize.ShloMosaic.Lib.Pointwise
public import Idealize.ShloMosaic.Lib.Pipeline.ValueKit

@[expose] public section

set_option maxRecDepth 16384

noncomputable section

namespace Cert.KernelIdeal.Gen

open Idealize.ShloMosaic Cert.Exponent Cert.Spec

variable (x0 : Vec Ideal S128x16384 .bf16) (x1 : Vec Ideal S1x16384 .f32)

/-- Token `r`'s row of the block, -/
abbrev row0 (r : Fin 128) : Fin 16384 → EReal := fun j => x0 (ix2 r j)
/-- and the norm's weights. -/
abbrev wrow0 : Fin 16384 → EReal := fun j => x1 (ix2 0 j)

theorem pay3_at (r : Fin 128) (k : Fin 16384) :
    k0_pay3 (F := Ideal) x0 x1 (ix2 r k) = normed (row0 x0 r) (wrow0 x1) k := by
  pointwise [k0_pay3]
  rfl

theorem pay4_at (r : Fin 128) : k0_pay4 (F := Ideal) x0 x1 (ix2 r 0) = amax (row0 x0 r) (wrow0 x1) := by
  pointwise [k0_pay4]
  unfold amax
  congr 1
  funext k
  rw [pay3_at]
  rfl

theorem pay1_at (a : FVec Ideal S128x16384 .f32) (b c : IVec S128x1 32) (r : Fin 128) (k : Fin 16384) :
    k0_pay1 (F := Ideal) a b c (ix2 r k)
      = cut (Ideal.ofBits .f32 (IntOp.shli .vector (IntOp.addi (b (ix2 r 0)) (c (ix2 r 0))) 23#32)) (a (ix2 r k)) := by
  pointwise [k0_pay1]
  rfl

theorem pay10_at (a t : FVec Ideal S128x1 .f32) (c d : IVec S128x1 32) (e : IVec S128x1 1) (i : S128x1.Idx) :
    k0_pay10 (F := Ideal) a t c d e i = IntOp.subi 0#32 (k0_pay9 (F := Ideal) a t c d e i) := rfl

theorem pay2_at (e : IVec S128x1 32) (i : S128x1.Idx) : k0_pay2 (F := Ideal) e i = kpow2 (e i) := rfl

/-- The values the block's stores share are payloads of the whole input blocks. -/
theorem pay12_eq : k0_pay12 (F := Ideal) x0 x1 = k0_pay4 x0 x1 := by unfold k0_pay12; frame_out
theorem pay13_eq : k0_pay13 (F := Ideal) x0 x1 = k0_pay5 x0 x1 := by unfold k0_pay13; frame_out
theorem pay14_eq : k0_pay14 (F := Ideal) x0 x1 = k0_pay6 x0 x1 := by unfold k0_pay14; frame_out
theorem pay15_eq : k0_pay15 (F := Ideal) x0 x1 = k0_pay7 x0 x1 := by unfold k0_pay15; frame_out
theorem pay16_eq : k0_pay16 (F := Ideal) x0 x1 = k0_pay8 x0 x1 := by unfold k0_pay16; frame_out

/-- The codes' block, -/
theorem out0_2_at (r : Fin 128) (k : Fin 16384) : out0_2 (F := Ideal) x0 x1 (ix2 r k) = kcode (row0 x0 r) (wrow0 x1) k := by
  frame_out
  rw [pay1_at, pay3_at, pay10_at, pay12_eq, pay13_eq, pay14_eq, pay15_eq, pay16_eq, pay9_at, pay4_at]
  rfl

/-- and the scales'. -/
theorem out0_3_at (r : Fin 128) : out0_3 (F := Ideal) x0 x1 (ix2 r 0) = kscale (row0 x0 r) (wrow0 x1) := by
  frame_out
  rw [pay2_at, pay12_eq, pay13_eq, pay14_eq, pay15_eq, pay16_eq, pay9_at, pay4_at]
  rfl

end Cert.KernelIdeal.Gen

end
-- ==== Proof.NormArray.lean ====
/- THE NORM'S ARRAYS: what the kernel's first call leaves in its codes and its scales, entry by entry, over the extended
   reals. -/
module

public import proofs.«01_k».proof.Proof.NormBlock

@[expose] public section

set_option maxRecDepth 16384

noncomputable section

namespace Cert.KernelIdeal.Gen

open Idealize.ShloMosaic Idealize.ShloMosaic.TcCoe Cert.Exponent Cert.Spec
open Idealize.SL Idealize.SL.Sem

variable (V : (c : Dev nD) → (b : Ref sig .tc) → Buf (Elt Ideal) ((c : Thread nD τ).loc b)) (c : Dev nD)

/-- The input blocks' places: token block `t`, and the weights whole. -/
theorem idx0 : ∀ t : Fin grid0.N, win0_0.index t = ![(grid0.coords t 0).val, 0] ∧ win0_1.index t = ![0, 0]
    ∧ win0_2.index t = ![(grid0.coords t 0).val, 0] ∧ win0_3.index t = ![(grid0.coords t 0).val, 0] := by
  decide +kernel

/-- The activations, as the call finds them, and the weights. -/
abbrev xs0 : Vec Ideal S8192x16384 .bf16 := V c main_v0
abbrev ws0 : Vec Ideal S1x16384 .f32 := V c main_v1

/-- Token block `t`'s row `r` is the array's row `128 t + r`. -/
theorem row0_eq (t : Fin cfg0.N) (r : Fin 128) (k : Fin 16384) (R : Fin 8192) (hR : R.val = (grid0.coords t 0).val * 128 + r.val) :
    row0 (iblk0 V c 0 t) r k = xs0 V c (ix2 R k) := by
  obtain ⟨h0, -, -, -⟩ := idx0 t
  show iblk0 V c 0 t (ix2 r k) = V c main_v0 (ix2 R k)
  blk_ext [iblk0, h0]

theorem wrow0_eq (t : Fin cfg0.N) (k : Fin 16384) : wrow0 (iblk0 V c 1 t) k = ws0 V c (ix2 0 k) := by
  obtain ⟨-, h0, -, -⟩ := idx0 t
  show iblk0 V c 1 t (ix2 0 k) = V c main_v1 (ix2 0 k)
  blk_ext [iblk0, h0]

/-- The codes' array after the call. -/
theorem codes_arr : (dat0 V c).arrAt 2 cfg0.N
    = fun i : S8192x16384.Idx => kcode (fun j => xs0 V c (ix2 (i 0) j)) (fun j => ws0 V c (ix2 0 j)) (i 1) := by
  refine (dat0 V c).arrAt_eq_of_covers 2 _ (by decide +kernel) fun t hf y => ?_
  obtain ⟨-, -, h2, -⟩ := idx0 t
  blk_simp
  rw [after0_2]
  have h0 : ((win0_2.blk t).view.emb y 0 : Fin _).val = (grid0.coords t 0).val * 128 + (y 0).val := by blk_simp [h2]
  have h1 : ((win0_2.blk t).view.emb y 1 : Fin _) = y 1 := by apply Fin.ext; blk_simp [h2]
  refine (congrArg (out0_2 (iblk0 V c 0 t) (iblk0 V c 1 t)) (?_ : y = ix2 (y 0) (y 1))).trans
    ((out0_2_at (iblk0 V c 0 t) (iblk0 V c 1 t) (y 0) (y 1)).trans ?_)
  · funext a; fin_cases a <;> rfl
  · rw [h1]
    congr 1
    · funext k; exact row0_eq V c t (y 0) k _ h0
    · funext k; exact wrow0_eq V c t k

/-- The scales' array after the call. -/
theorem scales_arr : (dat0 V c).arrAt 3 cfg0.N
    = fun i : S8192x1.Idx => kscale (fun j => xs0 V c (ix2 (i 0) j)) (fun j => ws0 V c (ix2 0 j)) := by
  refine (dat0 V c).arrAt_eq_of_covers 3 _ (by decide +kernel) fun t hf y => ?_
  obtain ⟨-, -, -, h3⟩ := idx0 t
  blk_simp
  rw [after0_3]
  have h0 : ((win0_3.blk t).view.emb y 0 : Fin _).val = (grid0.coords t 0).val * 128 + (y 0).val := by blk_simp [h3]
  refine (congrArg (out0_3 (iblk0 V c 0 t) (iblk0 V c 1 t)) (?_ : y = ix2 (y 0) 0)).trans
    ((out0_3_at (iblk0 V c 0 t) (iblk0 V c 1 t) (y 0)).trans ?_)
  · funext a; fin_cases a
    · rfl
    · exact Subsingleton.elim (α := Fin 1) _ _
  · congr 1
    · funext k; exact row0_eq V c t (y 0) k _ h0
    · funext k; exact wrow0_eq V c t k

end Cert.KernelIdeal.Gen

end
-- ==== Proof.RopeArray.lean ====
/- THE ROTARY TABLES: what the kernel's second call leaves in its two arrays, entry by entry, over the extended reals. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Cert.Exponent Cert.Spec
open Idealize.SL Idealize.SL.Sem

/-- A lane's number, cut to six bits, is its frequency. -/
theorem andi_freq : ∀ l : Fin 128, IntOp.andi (BitVec.ofNat 32 l.val) 63#32 = BitVec.ofNat 32 (freq l).val := by
  decide +kernel

theorem rope1_at (p : Vec Ideal S1024x1 .i32) (r : Fin 1024) (l : Fin 128) :
    k1_pay1 (F := Ideal) p (ix2 r l) = angle (p (ix2 r 0)) (freq l) := by
  pointwise [k1_pay1]
  rw [andi_freq]
  rfl

/-- The block of cosines, -/
theorem out1_1_at (p : Vec Ideal S1024x1 .i32) (r : Fin 1024) (l : Fin 128) :
    out1_1 (F := Ideal) p (ix2 r l) = kcos (p (ix2 r 0)) l := by
  frame_out
  pointwise [k1_pay2]
  rw [rope1_at]
  rfl

/-- and of sines. -/
theorem out1_2_at (p : Vec Ideal S1024x1 .i32) (r : Fin 1024) (l : Fin 128) :
    out1_2 (F := Ideal) p (ix2 r l) = ksin (p (ix2 r 0)) l := by
  frame_out
  pointwise [k1_pay3]
  rw [rope1_at]
  rfl

variable (V : (c : Dev nD) → (b : Ref sig .tc) → Buf (Elt Ideal) ((c : Thread nD τ).loc b)) (c : Dev nD)

/-- The blocks' places: token block `t`. -/
theorem idx1 : ∀ t : Fin grid1.N, win1_0.index t = ![(grid1.coords t 0).val, 0]
    ∧ win1_1.index t = ![(grid1.coords t 0).val, 0] ∧ win1_2.index t = ![(grid1.coords t 0).val, 0] := by
  decide +kernel

/-- The positions, as the call finds them. -/
abbrev ps1 : Vec Ideal S8192x1 .i32 := V c main_v3

theorem pos1_eq (t : Fin cfg1.N) (r : Fin 1024) (R : Fin 8192) (hR : R.val = (grid1.coords t 0).val * 1024 + r.val) :
    (iblk1 V c 0 t : Vec Ideal S1024x1 .i32) (ix2 r 0) = ps1 V c (ix2 R 0) := by
  obtain ⟨h0, -, -⟩ := idx1 t
  show iblk1 V c 0 t (ix2 r 0) = V c main_v3 (ix2 R 0)
  blk_ext [iblk1, h0]

/-- The cosines' array after the call. -/
theorem cos_arr : (dat1 V c).arrAt 1 cfg1.N = fun i : S8192x128.Idx => kcos (ps1 V c (ix2 (i 0) 0)) (i 1) := by
  refine (dat1 V c).arrAt_eq_of_covers 1 _ (by decide +kernel) fun t hf y => ?_
  obtain ⟨-, h1, -⟩ := idx1 t
  blk_simp
  rw [after1_1]
  have e0 : ((win1_1.blk t).view.emb y 0 : Fin _).val = (grid1.coords t 0).val * 1024 + (y 0).val := by blk_simp [h1]
  have e1 : ((win1_1.blk t).view.emb y 1 : Fin _) = y 1 := by apply Fin.ext; blk_simp [h1]
  refine (congrArg (out1_1 (iblk1 V c 0 t)) (?_ : y = ix2 (y 0) (y 1))).trans
    ((out1_1_at (iblk1 V c 0 t) (y 0) (y 1)).trans ?_)
  · funext a; fin_cases a <;> rfl
  · rw [e1]
    exact congrArg (fun p => kcos p (y 1)) (pos1_eq V c t (y 0) _ e0)

/-- The sines' array after the call. -/
theorem sin_arr : (dat1 V c).arrAt 2 cfg1.N = fun i : S8192x128.Idx => ksin (ps1 V c (ix2 (i 0) 0)) (i 1) := by
  refine (dat1 V c).arrAt_eq_of_covers 2 _ (by decide +kernel) fun t hf y => ?_
  obtain ⟨-, -, h2⟩ := idx1 t
  blk_simp
  rw [after1_2]
  have e0 : ((win1_2.blk t).view.emb y 0 : Fin _).val = (grid1.coords t 0).val * 1024 + (y 0).val := by blk_simp [h2]
  have e1 : ((win1_2.blk t).view.emb y 1 : Fin _) = y 1 := by apply Fin.ext; blk_simp [h2]
  refine (congrArg (out1_2 (iblk1 V c 0 t)) (?_ : y = ix2 (y 0) (y 1))).trans
    ((out1_2_at (iblk1 V c 0 t) (y 0) (y 1)).trans ?_)
  · funext a; fin_cases a <;> rfl
  · rw [e1]
    exact congrArg (fun p => ksin p (y 1)) (pos1_eq V c t (y 0) _ e0)

end Cert.KernelIdeal.Gen

end
-- ==== Proof.ProjBlock.lean ====
/- ONE BLOCK OF THE PROJECTION: 1024 tokens against four heads of 128 columns, of the kernel's third call, entry by
   entry, over the extended reals. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Gen

open Idealize.ShloMosaic Cert.Exponent Cert.Spec

/-- A head's entry: rotated where `flag` is set, as it is elsewhere. -/
def headOut (flag : BitVec 1) (y cs sn : Fin 128 → EReal) (l : Fin 128) : EReal :=
  Scalar.select flag (y l * cs l + y (across l) * sn l) (y l)

/-- Column `l` of the block's head `q`. -/
def col (q : Fin 4) (l : Fin 128) : Fin 512 := ⟨128 * q.val + l.val, by omega⟩

variable (x0 : Vec Ideal S1024x16384 .fp8e4m3) (x1 : Vec Ideal S16384x512 .fp8e4m3) (x2 : Vec Ideal S1024x1 .f32)
  (x3 : Vec Ideal S1x512 .f32) (x4 x5 : Vec Ideal S1024x128 .f32)

theorem dot2_at (r : Fin 1024) (k : Fin 512) :
    k2_pay2 (F := Ideal) x0 x1 (ix2 r k) = ∑ j, x0 (ix2 r j) * x1 (ix2 j k) := by
  pointwise [k2_pay2]

theorem head0_at (i : grid2.Coords) (w : Vec Ideal S1x128 .f32) (r : Fin 1024) (l : Fin 128) :
    k2_pay3 (F := Ideal) i x0 x1 x2 w x4 x5 (ix2 r l)
      = headOut (Scalar.cmpi .slt (BitVec.ofNat 32 (i 1).val) 32#32)
          (fun l => k2_pay2 (F := Ideal) x0 x1 (ix2 r (col 0 l)) * x2 (ix2 r 0) * w (ix2 0 l))
          (fun l => x4 (ix2 r l)) (fun l => x5 (ix2 r l)) l := by
  unfold k2_pay3
  generalize k2_pay2 (F := Ideal) x0 x1 = a
  have e : ∀ l, col 0 l = ⟨l.val, by omega⟩ := fun l => Fin.ext (by simp [col])
  simp only [e]
  pointwise
  rfl

theorem head1_at (b : BitVec 1) (w : Vec Ideal S1x128 .f32) (r : Fin 1024) (l : Fin 128) :
    k2_pay5 (F := Ideal) b (k2_pay4 x0 x1 x2 w) x4 x5 (ix2 r l)
      = headOut b
          (fun l => k2_pay2 (F := Ideal) x0 x1 (ix2 r (col 1 l)) * x2 (ix2 r 0) * w (ix2 0 l))
          (fun l => x4 (ix2 r l)) (fun l => x5 (ix2 r l)) l := by
  pointwise [k2_pay5, k2_pay4]
  rfl

theorem head2_at (b : BitVec 1) (a : FVec Ideal S1024x512 .f32) (w : Vec Ideal S1x128 .f32) (r : Fin 1024) (l : Fin 128) :
    k2_pay6 (F := Ideal) a b x2 w x4 x5 (ix2 r l)
      = headOut b
          (fun l => a (ix2 r (col 2 l)) * x2 (ix2 r 0) * w (ix2 0 l))
          (fun l => x4 (ix2 r l)) (fun l => x5 (ix2 r l)) l := by
  pointwise [k2_pay6]
  rfl

theorem head3_at (b : BitVec 1) (a : FVec Ideal S1024x512 .f32) (w : Vec Ideal S1x128 .f32) (r : Fin 1024) (l : Fin 128) :
    k2_pay1 (F := Ideal) b (k2_pay7 a x2) (k2_pay8 w) x4 x5 (ix2 r l)
      = headOut b
          (fun l => a (ix2 r (col 3 l)) * x2 (ix2 r 0) * w (ix2 0 l))
          (fun l => x4 (ix2 r l)) (fun l => x5 (ix2 r l)) l := by
  pointwise [k2_pay1, k2_pay7, k2_pay8]
  rfl

/-- A head's piece of the output block, at its place. -/
theorem piece_of (x : S1024x128.Idx) (r : Fin 1024) (q : Fin 4) (l : Fin 128) (q0 : Fin 4) (h0 : r.val = (x 0).val)
    (h1 : 128 * q.val + l.val = 128 * q0.val + (x 1).val) (hx : (x 1).val < 128) : x = ix2 r l ∧ q = q0 := by
  have hl := l.isLt
  constructor
  · funext a
    fin_cases a
    · exact Fin.ext h0.symm
    · apply Fin.ext; show (x 1).val = l.val; omega
  · apply Fin.ext; omega

theorem ld_col0 (l : Fin 128) : (View.ld x3 r2_3 : Vec Ideal S1x128 .f32) (ix2 0 l) = x3 (ix2 0 (col 0 l)) :=
  View.ld_unit_apply_of x3 _ _ _ _ _ fun a => by fin_cases a <;> simp [col]
theorem ld_col1 (l : Fin 128) : (View.ld x3 r2_6 : Vec Ideal S1x128 .f32) (ix2 0 l) = x3 (ix2 0 (col 1 l)) :=
  View.ld_unit_apply_of x3 _ _ _ _ _ fun a => by fin_cases a <;> simp [col]
theorem ld_col2 (l : Fin 128) : (View.ld x3 r2_8 : Vec Ideal S1x128 .f32) (ix2 0 l) = x3 (ix2 0 (col 2 l)) :=
  View.ld_unit_apply_of x3 _ _ _ _ _ fun a => by fin_cases a <;> simp [col]
theorem ld_col3 (l : Fin 128) : (View.ld x3 r2_10 : Vec Ideal S1x128 .f32) (ix2 0 l) = x3 (ix2 0 (col 3 l)) :=
  View.ld_unit_apply_of x3 _ _ _ _ _ fun a => by fin_cases a <;> simp [col]

/-- The output block: each of its four heads is the codes against the head's columns, rescaled, and rotated where the
    block's heads are among the first 32 blocks. -/
theorem out2_6_at (i : grid2.Coords) (r : Fin 1024) (q : Fin 4) (l : Fin 128) :
    out2_6 (F := Ideal) i x0 x1 x2 x3 x4 x5 (ix2 r (col q l))
      = headOut (Scalar.cmpi .slt (BitVec.ofNat 32 (i 1).val) 32#32)
          (fun l => proj (fun j => x0 (ix2 r j)) (fun j => x1 (ix2 j (col q l))) (x2 (ix2 r 0)) (x3 (ix2 0 (col q l))))
          (fun l => x4 (ix2 r l)) (fun l => x5 (ix2 r l)) l := by
  unfold out2_6 k2_pay9
  have z : ∀ a : Fin 2, (![0, 0] : Fin 2 → ℕ) a = 0 := by decide
  have e0 : View.ld x0 r2_0 = x0 := View.ld_unit_zero (funext z) _ x0
  have e1 : View.ld x1 r2_1 = x1 := View.ld_unit_zero (funext z) _ x1
  have e2 : View.ld x2 r2_2 = x2 := View.ld_unit_zero (funext z) _ x2
  have e4 : View.ld x4 r2_4 = x4 := View.ld_unit_zero (funext z) _ x4
  have e5 : View.ld x5 r2_4 = x5 := View.ld_unit_zero (funext z) _ x5
  rw [e0, e1, e2, e4, e5]
  obtain ⟨w0, h0⟩ : ∃ w : Vec Ideal S1x128 .f32, w = View.ld x3 r2_3 := ⟨_, rfl⟩
  have k0 : ∀ l, w0 (ix2 0 l) = x3 (ix2 0 (col 0 l)) := fun l => h0 ▸ ld_col0 x3 l
  obtain ⟨w1, h1⟩ : ∃ w : Vec Ideal S1x128 .f32, w = View.ld x3 r2_6 := ⟨_, rfl⟩
  have k1 : ∀ l, w1 (ix2 0 l) = x3 (ix2 0 (col 1 l)) := fun l => h1 ▸ ld_col1 x3 l
  obtain ⟨w2, h2⟩ : ∃ w : Vec Ideal S1x128 .f32, w = View.ld x3 r2_8 := ⟨_, rfl⟩
  have k2 : ∀ l, w2 (ix2 0 l) = x3 (ix2 0 (col 2 l)) := fun l => h2 ▸ ld_col2 x3 l
  obtain ⟨w3, h3⟩ : ∃ w : Vec Ideal S1x128 .f32, w = View.ld x3 r2_10 := ⟨_, rfl⟩
  have k3 : ∀ l, w3 (ix2 0 l) = x3 (ix2 0 (col 3 l)) := fun l => h3 ▸ ld_col3 x3 l
  rw [← h0, ← h1, ← h2, ← h3]
  clear h0 h1 h2 h3
  unfold proj
  canon_tiles x h
  · obtain ⟨rfl, rfl⟩ := piece_of x r q l 3 (by simpa using h0) (by simpa [col] using h1) x1_lt
    rw [head3_at]
    simp only [dot2_at, k3]
  · obtain ⟨rfl, rfl⟩ := piece_of x r q l 2 (by simpa using h0) (by simpa [col] using h1) x1_lt
    rw [head2_at]
    simp only [dot2_at, k2]
  · obtain ⟨rfl, rfl⟩ := piece_of x r q l 1 (by simpa using h0) (by simpa [col] using h1) x1_lt
    rw [head1_at]
    simp only [dot2_at, k1]
  · obtain ⟨rfl, rfl⟩ := piece_of x r q l 0 (by simpa using h0) (by simpa [col] using h1) x1_lt
    rw [head0_at]
    simp only [dot2_at, k0]

end Cert.KernelIdeal.Gen

end
-- ==== Proof.ProjArray.lean ====
/- THE PROJECTION'S ARRAY: what the kernel's third call leaves in its output, entry by entry, over the extended reals. -/
module

public import proofs.«01_k».proof.Proof.ProjBlock

@[expose] public section

set_option maxRecDepth 16384

noncomputable section

namespace Cert.KernelIdeal.Gen

open Idealize.ShloMosaic Idealize.ShloMosaic.TcCoe Cert.Exponent Cert.Spec
open Idealize.SL Idealize.SL.Sem

variable (V : (c : Dev nD) → (b : Ref sig .tc) → Buf (Elt Ideal) ((c : Thread nD τ).loc b)) (c : Dev nD)

/-- The blocks' places: token block `t / 34`, column block `t % 34`. -/
theorem idx2 : ∀ t : Fin grid2.N, win2_0.index t = ![(grid2.coords t 0).val, 0] ∧ win2_1.index t = ![0, (grid2.coords t 1).val]
    ∧ win2_2.index t = ![(grid2.coords t 0).val, 0] ∧ win2_3.index t = ![0, (grid2.coords t 1).val]
    ∧ win2_4.index t = ![(grid2.coords t 0).val, 0] ∧ win2_5.index t = ![(grid2.coords t 0).val, 0]
    ∧ win2_6.index t = ![(grid2.coords t 0).val, (grid2.coords t 1).val] := by
  decide +kernel

/-- The codes, the weights, their scales and the rotary tables, as the call finds them. -/
abbrev cd2 : Vec Ideal S8192x16384 .fp8e4m3 := V c main_v2_0
abbrev wq2 : Vec Ideal S16384x17408 .fp8e4m3 := V c main_arg2
abbrev sc2 : Vec Ideal S8192x1 .f32 := V c main_v2_1
abbrev ws2 : Vec Ideal S1x17408 .f32 := V c main_v5
abbrev cs2 : Vec Ideal S8192x128 .f32 := V c main_v4_0
abbrev sn2 : Vec Ideal S8192x128 .f32 := V c main_v4_1

theorem cd2_eq (t : Fin cfg2.N) (r : Fin 1024) (j : Fin 16384) (R : Fin 8192) (hR : R.val = (grid2.coords t 0).val * 1024 + r.val) :
    (iblk2 V c 0 t : Vec Ideal S1024x16384 .fp8e4m3) (ix2 r j) = cd2 V c (ix2 R j) := by
  obtain ⟨h, -⟩ := idx2 t
  show iblk2 V c 0 t (ix2 r j) = V c main_v2_0 (ix2 R j)
  blk_ext [iblk2, h]

theorem wq2_eq (t : Fin cfg2.N) (j : Fin 16384) (k : Fin 512) (K : Fin 17408) (hK : K.val = (grid2.coords t 1).val * 512 + k.val) :
    (iblk2 V c 1 t : Vec Ideal S16384x512 .fp8e4m3) (ix2 j k) = wq2 V c (ix2 j K) := by
  obtain ⟨-, h, -⟩ := idx2 t
  show iblk2 V c 1 t (ix2 j k) = V c main_arg2 (ix2 j K)
  blk_ext [iblk2, h]

theorem sc2_eq (t : Fin cfg2.N) (r : Fin 1024) (R : Fin 8192) (hR : R.val = (grid2.coords t 0).val * 1024 + r.val) :
    (iblk2 V c 2 t : Vec Ideal S1024x1 .f32) (ix2 r 0) = sc2 V c (ix2 R 0) := by
  obtain ⟨-, -, h, -⟩ := idx2 t
  show iblk2 V c 2 t (ix2 r 0) = V c main_v2_1 (ix2 R 0)
  blk_ext [iblk2, h]

theorem ws2_eq (t : Fin cfg2.N) (k : Fin 512) (K : Fin 17408) (hK : K.val = (grid2.coords t 1).val * 512 + k.val) :
    (iblk2 V c 3 t : Vec Ideal S1x512 .f32) (ix2 0 k) = ws2 V c (ix2 0 K) := by
  obtain ⟨-, -, -, h, -⟩ := idx2 t
  show iblk2 V c 3 t (ix2 0 k) = V c main_v5 (ix2 0 K)
  blk_ext [iblk2, h]

theorem cs2_eq (t : Fin cfg2.N) (r : Fin 1024) (l : Fin 128) (R : Fin 8192) (hR : R.val = (grid2.coords t 0).val * 1024 + r.val) :
    (iblk2 V c 4 t : Vec Ideal S1024x128 .f32) (ix2 r l) = cs2 V c (ix2 R l) := by
  obtain ⟨-, -, -, -, h, -⟩ := idx2 t
  show iblk2 V c 4 t (ix2 r l) = V c main_v4_0 (ix2 R l)
  blk_ext [iblk2, h]

theorem sn2_eq (t : Fin cfg2.N) (r : Fin 1024) (l : Fin 128) (R : Fin 8192) (hR : R.val = (grid2.coords t 0).val * 1024 + r.val) :
    (iblk2 V c 5 t : Vec Ideal S1024x128 .f32) (ix2 r l) = sn2 V c (ix2 R l) := by
  obtain ⟨-, -, -, -, -, h, -⟩ := idx2 t
  show iblk2 V c 5 t (ix2 r l) = V c main_v4_1 (ix2 R l)
  blk_ext [iblk2, h]

/-- A column's head, -/
def headOf (k : Fin 17408) : Fin 136 := ⟨k.val / 128, by omega⟩
/-- and its lane in the head. -/
def laneOf (k : Fin 17408) : Fin 128 := ⟨k.val % 128, by omega⟩

/-- Whether a column is of a rotated head: the first 32 blocks of 512 are. -/
def flagOf (k : Fin 17408) : BitVec 1 := Scalar.cmpi .slt (BitVec.ofNat 32 (k.val / 512)) 32#32

/-- Token `R`'s projection onto head `h`, from the arrays the call finds. -/
def head2 (R : Fin 8192) (h : Fin 136) (l : Fin 128) : EReal :=
  proj (fun j => cd2 V c (ix2 R j)) (fun j => wq2 V c (ix2 j (hcol h l))) (sc2 V c (ix2 R 0)) (ws2 V c (ix2 0 (hcol h l)))

/-- The projection's array after the call. -/
theorem proj_arr : (dat2 V c).arrAt 6 cfg2.N = fun i : S8192x17408.Idx =>
    headOut (flagOf (i 1)) (head2 V c (i 0) (headOf (i 1)))
      (fun l => cs2 V c (ix2 (i 0) l)) (fun l => sn2 V c (ix2 (i 0) l)) (laneOf (i 1)) := by
  refine (dat2 V c).arrAt_eq_of_covers 6 _ (by decide +kernel) fun t hf y => ?_
  obtain ⟨-, -, -, -, -, -, h6⟩ := idx2 t
  blk_simp
  rw [after2_6]
  have e0 : ((win2_6.blk t).view.emb y 0 : Fin _).val = (grid2.coords t 0).val * 1024 + (y 0).val := by blk_simp [h6]
  have e1 : ((win2_6.blk t).view.emb y 1 : Fin _).val = (grid2.coords t 1).val * 512 + (y 1).val := by blk_simp [h6]
  have hy : (y 1 : ℕ) < 512 := (y 1).isLt
  generalize h0 : (win2_6.blk t).view.emb y 0 = R at e0
  generalize h1 : (win2_6.blk t).view.emb y 1 = K at e1
  clear h0 h1
  change Fin 8192 at R
  change Fin 17408 at K
  obtain ⟨r, k, rfl⟩ : ∃ (r : Fin 1024) (k : Fin 512), y = ix2 r k := ⟨y 0, y 1, by funext a; fin_cases a <;> rfl⟩
  obtain ⟨q, l, rfl⟩ : ∃ (q : Fin 4) (l : Fin 128), k = col q l :=
    ⟨⟨k.val / 128, by omega⟩, ⟨k.val % 128, by omega⟩, Fin.ext (by simp [col]; omega)⟩
  have hk : (col q l).val = 128 * q.val + l.val := rfl
  replace e0 : R.val = (grid2.coords t 0).val * 1024 + r.val := e0
  replace e1 : K.val = (grid2.coords t 1).val * 512 + (128 * q.val + l.val) := e1
  refine (out2_6_at (iblk2 V c 0 t) (iblk2 V c 1 t) (iblk2 V c 2 t) (iblk2 V c 3 t) (iblk2 V c 4 t) (iblk2 V c 5 t)
    (grid2.coords t) r q l).trans ?_
  have hq := q.isLt
  have hl := l.isLt
  have eb : flagOf K = Scalar.cmpi .slt (BitVec.ofNat 32 (grid2.coords t 1).val) 32#32 := by
    unfold flagOf; rw [show K.val / 512 = (grid2.coords t 1).val by omega]
  have el : laneOf K = l := Fin.ext (by show K.val % 128 = _; omega)
  have eK : ∀ l', (hcol (headOf K) l').val = (grid2.coords t 1).val * 512 + (col q l').val := fun l' => by
    show 128 * (K.val / 128) + l'.val = _ + (128 * q.val + l'.val); omega
  rw [eb, el]
  have a0 : (fun j => (iblk2 V c 0 t : Vec Ideal S1024x16384 .fp8e4m3) (ix2 r j)) = fun j => cd2 V c (ix2 R j) :=
    funext fun j => cd2_eq V c t r j R e0
  have a1 : ∀ l', (fun j => (iblk2 V c 1 t : Vec Ideal S16384x512 .fp8e4m3) (ix2 j (col q l')))
      = fun j => wq2 V c (ix2 j (hcol (headOf K) l')) := fun l' => funext fun j => wq2_eq V c t j _ _ (eK l')
  have a2 := sc2_eq V c t r R e0
  have a3 := fun l' => ws2_eq V c t (col q l') (hcol (headOf K) l') (eK l')
  have aP : (fun l' => proj (fun j => (iblk2 V c 0 t : Vec Ideal S1024x16384 .fp8e4m3) (ix2 r j))
      (fun j => (iblk2 V c 1 t : Vec Ideal S16384x512 .fp8e4m3) (ix2 j (col q l')))
      ((iblk2 V c 2 t : Vec Ideal S1024x1 .f32) (ix2 r 0)) ((iblk2 V c 3 t : Vec Ideal S1x512 .f32) (ix2 0 (col q l'))))
      = head2 V c R (headOf K) := by
    funext l'
    rw [a0, a1, a2, a3]
    rfl
  have a4 : (fun l' => (iblk2 V c 4 t : Vec Ideal S1024x128 .f32) (ix2 r l')) = fun l' => cs2 V c (ix2 R l') :=
    funext fun l' => cs2_eq V c t r l' R e0
  have a5 : (fun l' => (iblk2 V c 5 t : Vec Ideal S1024x128 .f32) (ix2 r l')) = fun l' => sn2 V c (ix2 R l') :=
    funext fun l' => sn2_eq V c t r l' R e0
  rw [← aP, ← a4, ← a5]

end Cert.KernelIdeal.Gen

end
-- ==== Proof.KernelValue.lean ====
/- WHAT THE KERNEL COMPUTES: its five results at an index, from its arguments, over the extended reals. -/
module

public import proofs.«01_k».proof.Proof.NormArray
public import proofs.«01_k».proof.Proof.RopeArray
public import proofs.«01_k».proof.Proof.ProjArray
public import Idealize.ShloMosaic.Lib.StableHlo.ReadAt

@[expose] public section

set_option maxRecDepth 16384

noncomputable section

namespace Cert.KernelIdeal.Gen

open Idealize.ShloMosaic Idealize.ShloMosaic.TcCoe Cert.Exponent Cert.Spec
open Idealize.SL Idealize.SL.Sem

variable (m : (ℓ : Loc nD τ sig) → Buf (Elt Ideal) ℓ) (ρ : Dev nD → PrngReg) (c : Dev nD)

/-- Token `s` of batch `b`, among the 8192 rows. -/
def tok (b : Fin 2) (s : Fin 4096) : Fin 8192 := ⟨b.val * 4096 + s.val, by omega⟩

/-- The arguments: activations, norm weights, projection codes, their scales, positions. -/
abbrev A0 : Vec Ideal S2x4096x16384 .bf16 := m ((c : Thread nD τ).loc main_arg0)
abbrev A1 : Vec Ideal S16384 .f32 := m ((c : Thread nD τ).loc main_arg1)
abbrev A2 : Vec Ideal S16384x17408 .fp8e4m3 := m ((c : Thread nD τ).loc main_arg2)
abbrev A3 : Vec Ideal S17408 .f32 := m ((c : Thread nD τ).loc main_arg3)
abbrev A4 : Vec Ideal S2x4096 .i32 := m ((c : Thread nD τ).loc main_arg4)

/-- A token's activations, the norm's weights, the projection's codes and scales, as functions of numbers. -/
abbrev ax (b : Fin 2) (s : Fin 4096) : Fin 16384 → EReal := fun j => A0 m c (ix3 b s j)
abbrev aw : Fin 16384 → EReal := fun j => A1 m c (ix1 j)
abbrev aq : Fin 16384 → Fin 17408 → EReal := fun j k => A2 m c (ix2 j k)
abbrev asc : Fin 17408 → EReal := fun k => A3 m c (ix1 k)

/-! ## What each call finds -/

theorem tok_div (b : Fin 2) (s : Fin 4096) (h) : (⟨(tok b s).val / 4096, h⟩ : Fin 2) = b :=
  Fin.ext (by show (b.val * 4096 + s.val) / 4096 = b.val; omega)
theorem tok_mod (b : Fin 2) (s : Fin 4096) (h) : (⟨(tok b s).val % 4096, h⟩ : Fin 4096) = s :=
  Fin.ext (by show (b.val * 4096 + s.val) % 4096 = s.val; omega)

theorem xs_at (b : Fin 2) (s : Fin 4096) (j : Fin 16384) : xs0 (V1 m ρ) c (ix2 (tok b s) j) = ax m c b s j := by
  show StableHlo.after hostOps0 (W0 m ρ c) (Proc.devRef .tc main_v0) (ix2 (tok b s) j) = _
  after_reads_at
  rw [tok_div, tok_mod]

theorem w_at (j : Fin 16384) : ws0 (V1 m ρ) c (ix2 0 j) = aw m c j := by
  show StableHlo.after hostOps0 (W0 m ρ c) (Proc.devRef .tc main_v1) (ix2 0 j) = _
  after_reads_at

theorem p_at (b : Fin 2) (s : Fin 4096) : ps1 (V3 m ρ) c (ix2 (tok b s) 0) = A4 m c (ix2 b s) := by
  show StableHlo.after hostOps1 (W2 m ρ c) (Proc.devRef .tc main_v3) (ix2 (tok b s) 0) = _
  after_reads_at
  rw [tok_div, tok_mod, W2_args m ρ c main_arg4 (by decide)]

theorem wsc_at (k : Fin 17408) : ws2 (V5 m ρ) c (ix2 0 k) = asc m c k := by
  show StableHlo.after hostOps2 (W4 m ρ c) (Proc.devRef .tc main_v5) (ix2 0 k) = _
  after_reads_at
  rw [W4_args m ρ c main_arg3 (by decide)]

theorem wq_at (j : Fin 16384) (k : Fin 17408) : wq2 (V5 m ρ) c (ix2 j k) = aq m c j k :=
  congrFun (W5_args m ρ c main_arg2 (by decide)) (ix2 j k)

/-- The codes and the scales are the first call's, -/
theorem cd_arr : W5 m ρ c (Proc.devRef .tc main_v2_0) = (dat0 (V1 m ρ) c).arrAt 2 cfg0.N :=
  (W5_of m ρ c main_v2_0 (by decide)).trans ((W4_of m ρ c main_v2_0 (by decide)).trans
    ((W3_of m ρ c main_v2_0 (by decide)).trans (W2_arr m ρ c 2)))
theorem sc_arr : W5 m ρ c (Proc.devRef .tc main_v2_1) = (dat0 (V1 m ρ) c).arrAt 3 cfg0.N :=
  (W5_of m ρ c main_v2_1 (by decide)).trans ((W4_of m ρ c main_v2_1 (by decide)).trans
    ((W3_of m ρ c main_v2_1 (by decide)).trans (W2_arr m ρ c 3)))
/-- the rotary tables the second's. -/
theorem cs_arr : W5 m ρ c (Proc.devRef .tc main_v4_0) = (dat1 (V3 m ρ) c).arrAt 1 cfg1.N :=
  (W5_of m ρ c main_v4_0 (by decide)).trans (W4_arr m ρ c 1)
theorem sn_arr : W5 m ρ c (Proc.devRef .tc main_v4_1) = (dat1 (V3 m ρ) c).arrAt 2 cfg1.N :=
  (W5_of m ρ c main_v4_1 (by decide)).trans (W4_arr m ρ c 2)

theorem xs_row (b : Fin 2) (s : Fin 4096) : (fun j => xs0 (V1 m ρ) c (ix2 (tok b s) j)) = ax m c b s := funext (xs_at m ρ c b s)
theorem w_row : (fun j => ws0 (V1 m ρ) c (ix2 0 j)) = aw m c := funext (w_at m ρ c)

theorem cd_at (b : Fin 2) (s : Fin 4096) (k : Fin 16384) :
    cd2 (V5 m ρ) c (ix2 (tok b s) k) = kcode (ax m c b s) (aw m c) k := by
  refine (congrFun ((cd_arr m ρ c).trans (codes_arr (V1 m ρ) c)) (ix2 (tok b s) k)).trans ?_
  show kcode (fun j => xs0 (V1 m ρ) c (ix2 (tok b s) j)) (fun j => ws0 (V1 m ρ) c (ix2 0 j)) k = _
  rw [xs_row, w_row]

theorem sc_at (b : Fin 2) (s : Fin 4096) : sc2 (V5 m ρ) c (ix2 (tok b s) 0) = kscale (ax m c b s) (aw m c) := by
  refine (congrFun ((sc_arr m ρ c).trans (scales_arr (V1 m ρ) c)) (ix2 (tok b s) 0)).trans ?_
  show kscale (fun j => xs0 (V1 m ρ) c (ix2 (tok b s) j)) (fun j => ws0 (V1 m ρ) c (ix2 0 j)) = _
  rw [xs_row, w_row]

theorem cs_at (b : Fin 2) (s : Fin 4096) (l : Fin 128) : cs2 (V5 m ρ) c (ix2 (tok b s) l) = kcos (A4 m c (ix2 b s)) l := by
  refine (congrFun ((cs_arr m ρ c).trans (cos_arr (V3 m ρ) c)) (ix2 (tok b s) l)).trans ?_
  show kcos (ps1 (V3 m ρ) c (ix2 (tok b s) 0)) l = _
  rw [p_at]

theorem sn_at (b : Fin 2) (s : Fin 4096) (l : Fin 128) : sn2 (V5 m ρ) c (ix2 (tok b s) l) = ksin (A4 m c (ix2 b s)) l := by
  refine (congrFun ((sn_arr m ρ c).trans (sin_arr (V3 m ρ) c)) (ix2 (tok b s) l)).trans ?_
  show ksin (ps1 (V3 m ρ) c (ix2 (tok b s) 0)) l = _
  rw [p_at]

/-! ## The projection's array, head by head -/

theorem head_at (b : Fin 2) (s : Fin 4096) (h : Fin 136) :
    head2 (V5 m ρ) c (tok b s) h = khead (ax m c b s) (aw m c) (aq m c) (asc m c) h := by
  funext l
  have e0 : (fun j => cd2 (V5 m ρ) c (ix2 (tok b s) j)) = kcode (ax m c b s) (aw m c) := funext (cd_at m ρ c b s)
  have e1 : (fun j => wq2 (V5 m ρ) c (ix2 j (hcol h l))) = fun j => aq m c j (hcol h l) := funext fun j => wq_at m ρ c j _
  unfold head2 khead
  rw [e0, e1, sc_at, wsc_at]

theorem flag_block : ∀ n : Fin 34, Scalar.cmpi .slt (BitVec.ofNat 32 n.val) 32#32 = if n.val < 32 then 1#1 else 0#1 := by
  decide +kernel

theorem flag_at (h : Fin 136) (l : Fin 128) : flagOf (hcol h l) = if h.val < 128 then 1#1 else 0#1 := by
  have e : (hcol h l).val / 512 = h.val / 4 := by show (128 * h.val + l.val) / 512 = _; omega
  have := flag_block ⟨h.val / 4, by omega⟩
  unfold flagOf
  rw [e]
  refine this.trans ?_
  by_cases hh : h.val < 128
  · rw [if_pos hh, if_pos (show h.val / 4 < 32 by omega)]
  · rw [if_neg hh, if_neg (show ¬ h.val / 4 < 32 by omega)]

theorem headOf_hcol (h : Fin 136) (l : Fin 128) : headOf (hcol h l) = h :=
  Fin.ext (by show (128 * h.val + l.val) / 128 = _; omega)
theorem laneOf_hcol (h : Fin 136) (l : Fin 128) : laneOf (hcol h l) = l :=
  Fin.ext (by show (128 * h.val + l.val) % 128 = _; omega)

/-- The projection's array after the third call. -/
theorem out_at (b : Fin 2) (s : Fin 4096) (h : Fin 136) (l : Fin 128) (R : Fin 8192) (K : Fin 17408)
    (hR : R.val = b.val * 4096 + s.val) (hK : K.val = 128 * h.val + l.val) :
    (W6 m ρ c (Proc.devRef .tc main_v6) : Vec Ideal S8192x17408 .bf16) (ix2 R K)
      = headOut (if h.val < 128 then 1#1 else 0#1) (khead (ax m c b s) (aw m c) (aq m c) (asc m c) h)
          (kcos (A4 m c (ix2 b s))) (ksin (A4 m c (ix2 b s))) l := by
  obtain rfl : R = tok b s := Fin.ext hR
  obtain rfl : K = hcol h l := Fin.ext hK
  refine (congrFun ((W6_arr m ρ c 6).trans (proj_arr (V5 m ρ) c)) (ix2 (tok b s) (hcol h l))).trans ?_
  show headOut (flagOf (hcol h l)) (head2 (V5 m ρ) c (tok b s) (headOf (hcol h l))) (fun l => cs2 (V5 m ρ) c (ix2 (tok b s) l))
    (fun l => sn2 (V5 m ρ) c (ix2 (tok b s) l)) (laneOf (hcol h l)) = _
  have e4 : (fun l => cs2 (V5 m ρ) c (ix2 (tok b s) l)) = kcos (A4 m c (ix2 b s)) := funext (cs_at m ρ c b s)
  have e5 : (fun l => sn2 (V5 m ρ) c (ix2 (tok b s) l)) = ksin (A4 m c (ix2 b s)) := funext (sn_at m ρ c b s)
  rw [flag_at, headOf_hcol, laneOf_hcol, head_at, e4, e5]

theorem headOut_rot (p : BitVec 32) (y : Fin 128 → EReal) (l : Fin 128) : headOut 1#1 y (kcos p) (ksin p) l = krot p y l := rfl
theorem headOut_asis (y cs sn : Fin 128 → EReal) (l : Fin 128) : headOut 0#1 y cs sn l = y l := rfl

/-! ## The results -/

/-- The query, -/
theorem v8_at (b : Fin 2) (s : Fin 4096) (h : Fin 120) (l : Fin 128) :
    (W7 m ρ c (Proc.devRef .tc main_v8) : Vec Ideal S2x4096x120x128 .bf16) (ix4 b s h l)
      = krot (A4 m c (ix2 b s)) (khead (ax m c b s) (aw m c) (aq m c) (asc m c) (qh h)) l := by
  show StableHlo.after hostOps3 (W6 m ρ c) (Proc.devRef .tc main_v8) (ix4 b s h l) = _
  after_reads_at
  refine (out_at m ρ c b s (qh h) l _ _ rfl (by simp [qh]; omega)).trans ?_
  rw [if_pos (show (qh h).val < 128 by simp [qh]; omega), headOut_rot]

/-- the key, -/
theorem v10_at (b : Fin 2) (s : Fin 4096) (h : Fin 8) (l : Fin 128) :
    (W7 m ρ c (Proc.devRef .tc main_v10) : Vec Ideal S2x4096x8x128 .bf16) (ix4 b s h l)
      = krot (A4 m c (ix2 b s)) (khead (ax m c b s) (aw m c) (aq m c) (asc m c) (kh h)) l := by
  show StableHlo.after hostOps3 (W6 m ρ c) (Proc.devRef .tc main_v10) (ix4 b s h l) = _
  after_reads_at
  refine (out_at m ρ c b s (kh h) l _ _ rfl (by simp [kh]; omega)).trans ?_
  rw [if_pos (show (kh h).val < 128 by simp [kh]; omega), headOut_rot]

/-- the value, -/
theorem v12_at (b : Fin 2) (s : Fin 4096) (h : Fin 8) (l : Fin 128) :
    (W7 m ρ c (Proc.devRef .tc main_v12) : Vec Ideal S2x4096x8x128 .bf16) (ix4 b s h l)
      = khead (ax m c b s) (aw m c) (aq m c) (asc m c) (vh h) l := by
  show StableHlo.after hostOps3 (W6 m ρ c) (Proc.devRef .tc main_v12) (ix4 b s h l) = _
  after_reads_at
  refine (out_at m ρ c b s (vh h) l _ _ rfl (by simp [vh]; omega)).trans ?_
  rw [if_neg (show ¬ (vh h).val < 128 by simp [vh]), headOut_asis]

/-- the codes -/
theorem v13_at (b : Fin 2) (s : Fin 4096) (k : Fin 16384) :
    (W7 m ρ c (Proc.devRef .tc main_v13) : Vec Ideal S2x4096x16384 .fp8e4m3) (ix3 b s k) = kcode (ax m c b s) (aw m c) k := by
  show StableHlo.after hostOps3 (W6 m ρ c) (Proc.devRef .tc main_v13) (ix3 b s k) = _
  after_reads_at
  exact (congrFun (W6_of m ρ c main_v2_0 (by decide)) (ix2 (tok b s) k)).trans (cd_at m ρ c b s k)

/-- and the scales. -/
theorem v14_at (b : Fin 2) (s : Fin 4096) :
    (W7 m ρ c (Proc.devRef .tc main_v14) : Vec Ideal S2x4096 .f32) (ix2 b s) = kscale (ax m c b s) (aw m c) := by
  show StableHlo.after hostOps3 (W6 m ρ c) (Proc.devRef .tc main_v14) (ix2 b s) = _
  after_reads_at
  exact (congrFun (W6_of m ρ c main_v2_1 (by decide)) (ix2 (tok b s) 0)).trans (sc_at m ρ c b s)

end Cert.KernelIdeal.Gen

end
-- ==== Proof.RefLines.lean ====
/- THE REFERENCE'S HOST LINES BEFORE THE PRODUCT, stretch by stretch, from any contents: each array at an index. -/
module

public import proofs.«01_k».proof.Proof.Gen.ReferenceIdeal.Frame
public import proofs.«01_k».proof.Proof.Spec
public import Idealize.ShloMosaic.Lib.Pointwise
public import Idealize.ShloMosaic.Lib.StableHlo.ReadAt
public import Idealize.ShloMosaic.Lib.IdealHost

@[expose] public section

set_option maxRecDepth 16384

noncomputable section

namespace Cert.ReferenceIdeal.Gen

open Idealize.ShloMosaic Idealize.ShloMosaic.TcCoe Cert.Exponent Cert.Spec
open Idealize.SL Idealize.SL.Sem

variable (V : Valuation τ sig (Elt Ideal)) (b : Fin 2) (s : Fin 4096) (k : Fin 16384)

/-- The base of the powers, -/
theorem v16_of (x : EReal) (hx : Ideal.ofBits .f32 0x40000000#32 = x) :
    (StableHlo.after (List.drop 20 hostOps0) V (Proc.devRef .tc main_v16) : Vec Ideal S2x4096 .f32) (ix2 b s) = x := by
  after_reads_at
  exact hx

/-- the zero that an all-zero token's exponent is, -/
theorem c7_of (x : EReal) (hx : 0 = x) :
    (StableHlo.after (List.drop 20 hostOps0) V (Proc.devRef .tc main_cst_7) : Vec Ideal S_ .f32) ix0 = x := by
  after_reads_at
  first | done | exact hx

/-- whether a token's largest magnitude is zero, -/
theorem v23_of (a : EReal) (ha : (V (Proc.devRef .tc main_v15) : Vec Ideal S2x4096 .f32) (ix2 b s) = a) (x : BitVec 1)
    (hx : Ideal.cmp .oeq a 0 = x) :
    (StableHlo.after (List.drop 20 hostOps0) V (Proc.devRef .tc main_v23) : Vec Ideal S2x4096 .i1) (ix2 b s) = x := by
  subst hx ha
  after_reads_at

/-- the exponent of another token. -/
theorem v26_of (a : EReal) (ha : (V (Proc.devRef .tc main_v15) : Vec Ideal S2x4096 .f32) (ix2 b s) = a) (x : EReal)
    (hx : Ideal.liftRound Int.floor (Ideal.div (Ideal.log (a * inv448)) (Ideal.log (Ideal.ofBits .f32 0x40000000#32)))
      + 1 = x) :
    (StableHlo.after (List.drop 20 hostOps0) V (Proc.devRef .tc main_v26) : Vec Ideal S2x4096 .f32) (ix2 b s) = x := by
  subst hx ha
  after_reads_at
  unfold inv448
  with_reducible rfl

/-- The exponent. -/
theorem v27_of (f : BitVec 1) (z e x : EReal) (hf : (V (Proc.devRef .tc main_v23) : Vec Ideal S2x4096 .i1) (ix2 b s) = f)
    (hz : (V (Proc.devRef .tc main_cst_7) : Vec Ideal S_ .f32) ix0 = z)
    (he : (V (Proc.devRef .tc main_v26) : Vec Ideal S2x4096 .f32) (ix2 b s) = e) (hx : Scalar.select f z e = x) :
    (StableHlo.after hostOps0_1 V (Proc.devRef .tc main_v27) : Vec Ideal S2x4096 .f32) (ix2 b s) = x := by
  subst hx hf hz he
  after_reads_at
  first | done | rfl

/-- The scale, -/
theorem v28_of (t e x : EReal) (ht : (V (Proc.devRef .tc main_v16) : Vec Ideal S2x4096 .f32) (ix2 b s) = t)
    (he : (V (Proc.devRef .tc main_v27) : Vec Ideal S2x4096 .f32) (ix2 b s) = e) (hx : Ideal.pow t e = x) :
    (StableHlo.after hostOps0_2 V (Proc.devRef .tc main_v28) : Vec Ideal S2x4096 .f32) (ix2 b s) = x := by
  subst hx ht he
  after_reads_at
  first | done | rfl

/-- the scaled values, -/
theorem v33_of (t e n x : EReal) (ht : (V (Proc.devRef .tc main_v16) : Vec Ideal S2x4096 .f32) (ix2 b s) = t)
    (he : (V (Proc.devRef .tc main_v27) : Vec Ideal S2x4096 .f32) (ix2 b s) = e)
    (hn : (V (Proc.devRef .tc main_v13) : Vec Ideal S2x4096x16384 .f32) (ix3 b s k) = n) (hx : n * Ideal.pow t (-e) = x) :
    (StableHlo.after hostOps0_2 V (Proc.devRef .tc main_v33) : Vec Ideal S2x4096x16384 .f32) (ix3 b s k) = x := by
  subst hx ht he hn
  after_reads_at
  first | done | rfl

/-- the ends of the range they are cut to, -/
theorem c8_of (x : EReal) (hx : Ideal.ofBits .f32 0xC3E00000#32 = x) :
    (StableHlo.after hostOps0_2 V (Proc.devRef .tc main_cst_8) : Vec Ideal S_ .f32) ix0 = x := by
  after_reads_at
  first | done | exact hx
theorem c9_of (x : EReal) (hx : Ideal.ofBits .f32 0x43E00000#32 = x) :
    (StableHlo.after hostOps0_2 V (Proc.devRef .tc main_cst_9) : Vec Ideal S_ .f32) ix0 = x := by
  after_reads_at
  first | done | exact hx

/-- and the values cut. -/
theorem v34_of (l u n x : EReal) (hl : (V (Proc.devRef .tc main_cst_8) : Vec Ideal S_ .f32) ix0 = l)
    (hu : (V (Proc.devRef .tc main_cst_9) : Vec Ideal S_ .f32) ix0 = u)
    (hn : (V (Proc.devRef .tc main_v33) : Vec Ideal S2x4096x16384 .f32) (ix3 b s k) = n) (hx : min u (max l n) = x) :
    (StableHlo.after hostOps0_3 V (Proc.devRef .tc main_v34) : Vec Ideal S2x4096x16384 .f32) (ix3 b s k) = x := by
  subst hx hl hu hn
  after_reads_at
  first | done | rfl

/-- The cut values as the product finds them: the tokens of both batches in one row of 8192. -/
theorem v35_of (R : Fin 8192) (x : EReal)
    (hn : ∀ b s, R.val = b.val * 4096 + s.val → (V (Proc.devRef .tc main_v34) : Vec Ideal S2x4096x16384 .f32) (ix3 b s k) = x) :
    (StableHlo.after hostOps0_4 V (Proc.devRef .tc main_v35) : Vec Ideal S8192x16384 .f32) (ix2 R k) = x := by
  after_reads_at
  exact hn _ _ (by show R.val = R.val / 4096 * 4096 + R.val % 4096; omega)

/-! What a stretch does not write it leaves. -/

theorem keep13_1 : StableHlo.after (List.drop 20 hostOps0) V (Proc.devRef .tc main_v13) = V (Proc.devRef .tc main_v13) := by
  after_reads_simp
theorem keep13_2 : StableHlo.after hostOps0_1 V (Proc.devRef .tc main_v13) = V (Proc.devRef .tc main_v13) := by
  after_reads_simp
theorem keep16_2 : StableHlo.after hostOps0_1 V (Proc.devRef .tc main_v16) = V (Proc.devRef .tc main_v16) := by
  after_reads_simp
theorem keep28_4 : StableHlo.after hostOps0_3 V (Proc.devRef .tc main_v28) = V (Proc.devRef .tc main_v28) := by
  after_reads_simp
theorem keep28_5 : StableHlo.after hostOps0_4 V (Proc.devRef .tc main_v28) = V (Proc.devRef .tc main_v28) := by
  after_reads_simp

end Cert.ReferenceIdeal.Gen

end
-- ==== Proof.RefHost.lean ====
/- THE REFERENCE BEFORE ITS PRODUCT: the norm, the largest magnitude, the exponent, the scale and the clipped values, at an
   index, from the arguments, over the extended reals. -/
module

public import proofs.«01_k».proof.Proof.RefLines
public import proofs.«01_k».proof.Proof.Spec
public import Idealize.ShloMosaic.Lib.Pointwise
public import Idealize.ShloMosaic.Lib.StableHlo.ReadAt
public import Idealize.ShloMosaic.Lib.IdealHost

@[expose] public section

set_option maxRecDepth 16384

noncomputable section

namespace Cert.ReferenceIdeal.Gen

open Idealize.ShloMosaic Idealize.ShloMosaic.TcCoe Cert.Exponent Cert.Spec
open Idealize.SL Idealize.SL.Sem

variable (m : (ℓ : Loc nD τ sig) → Buf (Elt Ideal) ℓ) (c : Dev nD)

/-- The arguments: activations, norm weights, projection codes, their scales, positions. -/
abbrev A0 : Vec Ideal S2x4096x16384 .bf16 := m ((c : Thread nD τ).loc main_arg0)
abbrev A1 : Vec Ideal S16384 .f32 := m ((c : Thread nD τ).loc main_arg1)
abbrev A2 : Vec Ideal S16384x17408 .fp8e4m3 := m ((c : Thread nD τ).loc main_arg2)
abbrev A3 : Vec Ideal S17408 .f32 := m ((c : Thread nD τ).loc main_arg3)
abbrev A4 : Vec Ideal S2x4096 .i32 := m ((c : Thread nD τ).loc main_arg4)

/-- A token's activations, the norm's weights, the projection's codes and scales, as functions of numbers. -/
abbrev ax (b : Fin 2) (s : Fin 4096) : Fin 16384 → EReal := fun j => A0 m c (ix3 b s j)
abbrev aw : Fin 16384 → EReal := fun j => A1 m c (ix1 j)
abbrev aq : Fin 16384 → Fin 17408 → EReal := fun j k => A2 m c (ix2 j k)
abbrev asc : Fin 17408 → EReal := fun k => A3 m c (ix1 k)

/-- The contents after each of the stretches of host lines before the call, the first cut after the largest magnitude. -/
def U0 : Valuation τ sig (Elt Ideal) := StableHlo.after (List.take 20 hostOps0) (fun b => m (c, b))
def U1 : Valuation τ sig (Elt Ideal) := StableHlo.after (List.drop 20 hostOps0) (U0 m c)
def U2 : Valuation τ sig (Elt Ideal) := StableHlo.after hostOps0_1 (U1 m c)
def U3 : Valuation τ sig (Elt Ideal) := StableHlo.after hostOps0_2 (U2 m c)
def U4 : Valuation τ sig (Elt Ideal) := StableHlo.after hostOps0_3 (U3 m c)

theorem V0_eq : V0 m c = StableHlo.after hostOps0_4 (U4 m c) := by
  unfold V0 U4 U3 U2 U1 U0
  rw [← StableHlo.after_append (List.take 20 hostOps0), List.take_append_drop]
  simp only [List.flatten_cons, List.flatten_nil, List.append_nil, StableHlo.after_append]

theorem v13_at (b : Fin 2) (s : Fin 4096) (k : Fin 16384) :
    (U0 m c (Proc.devRef .tc main_v13) : Vec Ideal S2x4096x16384 .f32) (ix3 b s k) = normed (ax m c b s) (aw m c) k := by
  unfold U0
  after_reads_at
  rfl

theorem v15_at (b : Fin 2) (s : Fin 4096) :
    (U0 m c (Proc.devRef .tc main_v15) : Vec Ideal S2x4096 .f32) (ix2 b s) = amax (ax m c b s) (aw m c) := by
  unfold U0
  after_reads_at
  rfl

theorem two_eq : Ideal.ofBits .f32 0x40000000#32 = 2 := by
  have h := ofBits_field 128 (by norm_num)
  rw [fieldValue_pow 128 (by norm_num) (by norm_num)] at h
  have e : IntOp.shli .vector (BitVec.ofNat 32 128) 23#32 = 0x40000000#32 := by decide +kernel
  rw [e] at h
  rw [h]
  norm_num
  rfl

/-- The exponent, -/
theorem v27_at (b : Fin 2) (s : Fin 4096) :
    (U2 m c (Proc.devRef .tc main_v27) : Vec Ideal S2x4096 .f32) (ix2 b s) = rexp (amax (ax m c b s) (aw m c)) :=
  v27_of (U1 m c) b s _ _ _ _ (v23_of (U0 m c) b s _ (v15_at m c b s) _ rfl) (c7_of (U0 m c) _ rfl)
    (v26_of (U0 m c) b s _ (v15_at m c b s) _ rfl) (by rw [two_eq]; unfold rexp; with_reducible rfl)

theorem two_at (b : Fin 2) (s : Fin 4096) :
    (U2 m c (Proc.devRef .tc main_v16) : Vec Ideal S2x4096 .f32) (ix2 b s) = (2 : EReal) :=
  (congrFun (keep16_2 (U1 m c)) (ix2 b s)).trans (v16_of (U0 m c) b s _ two_eq)

theorem normed_at (b : Fin 2) (s : Fin 4096) (k : Fin 16384) :
    (U2 m c (Proc.devRef .tc main_v13) : Vec Ideal S2x4096x16384 .f32) (ix3 b s k) = normed (ax m c b s) (aw m c) k :=
  (congrFun ((keep13_2 (U1 m c)).trans (keep13_1 (U0 m c))) (ix3 b s k)).trans (v13_at m c b s k)

/-- the scale, -/
theorem v28_at (b : Fin 2) (s : Fin 4096) :
    (V0 m c (Proc.devRef .tc main_v28) : Vec Ideal S2x4096 .f32) (ix2 b s) = rscale (ax m c b s) (aw m c) := by
  rw [V0_eq]
  exact (congrFun ((keep28_5 (U4 m c)).trans (keep28_4 (U3 m c))) (ix2 b s)).trans
    (v28_of (U2 m c) b s _ _ _ (two_at m c b s) (v27_at m c b s) rfl)

/-- and the cut values, the tokens of both batches in one row of 8192. -/
theorem v35_at (b : Fin 2) (s : Fin 4096) (k : Fin 16384) (R : Fin 8192) (hR : R.val = b.val * 4096 + s.val) :
    (V0 m c (Proc.devRef .tc main_v35) : Vec Ideal S8192x16384 .f32) (ix2 R k) = rcode (ax m c b s) (aw m c) k := by
  rw [V0_eq]
  refine v35_of (U4 m c) k R _ fun b' s' h => ?_
  obtain rfl : b' = b := Fin.ext (by omega)
  obtain rfl : s' = s := Fin.ext (by omega)
  exact v34_of (U3 m c) b' s' k _ _ _ _ (c8_of (U2 m c) _ rfl) (c9_of (U2 m c) _ rfl)
    (v33_of (U2 m c) b' s' k _ _ _ _ (two_at m c b' s') (v27_at m c b' s') (normed_at m c b' s' k) rfl) rfl

end Cert.ReferenceIdeal.Gen

end
-- ==== Proof.RefTail.lean ====
/- THE REFERENCE'S HOST LINES AFTER THE PRODUCT, in three stretches, from any contents: each array at an index. -/
module

public import proofs.«01_k».proof.Proof.Gen.ReferenceIdeal.Frame
public import proofs.«01_k».proof.Proof.Spec
public import Idealize.ShloMosaic.Lib.Pointwise
public import Idealize.ShloMosaic.Lib.StableHlo.ReadAt
public import Idealize.ShloMosaic.Lib.IdealHost

@[expose] public section

set_option maxRecDepth 16384

noncomputable section

namespace Cert.ReferenceIdeal.Gen

open Idealize.ShloMosaic Idealize.ShloMosaic.TcCoe Cert.Exponent Cert.Spec
open Idealize.SL Idealize.SL.Sem

variable (V : Valuation τ sig (Elt Ideal)) (b : Fin 2) (s : Fin 4096)

/-- The three stretches: the rescaled heads, the rotary tables, the results. -/
abbrev headOps : List (HloOp τ sig (Elt Ideal)) := List.take 13 hostOps1
abbrev tableOps : List (HloOp τ sig (Elt Ideal)) := List.take 21 (List.drop 13 hostOps1)
abbrev resultOps : List (HloOp τ sig (Elt Ideal)) := List.drop 34 hostOps1

theorem tail_split : StableHlo.after hostOps1 V = StableHlo.after resultOps (StableHlo.after tableOps (StableHlo.after headOps V)) := by
  rw [← StableHlo.after_append, ← StableHlo.after_append]
  rfl

/-! ## The heads -/

theorem v45_of (h : Fin 120) (l : Fin 128) (a sc w x : EReal)
    (ha : ∀ (R : Fin 8192) (K : Fin 17408), R.val = b.val * 4096 + s.val → K.val = 128 * h.val + l.val →
      (V (Proc.devRef .tc main_v36_1) : Vec Ideal S8192x17408 .f32) (ix2 R K) = a)
    (hsc : (V (Proc.devRef .tc main_v28) : Vec Ideal S2x4096 .f32) (ix2 b s) = sc)
    (hw : ∀ (K : Fin 17408), K.val = 128 * h.val + l.val → (V (Proc.devRef .tc main_arg3) : Vec Ideal S17408 .f32) (ix1 K) = w)
    (hx : a * sc * w = x) :
    (StableHlo.after headOps V (Proc.devRef .tc main_v45) : Vec Ideal S2x4096x120x128 .f32) (ix4 b s h l) = x := by
  subst hx hsc
  after_reads_at
  rw [ha _ _ rfl (by show h.val * 128 + l.val = _; omega), hw _ (by show h.val * 128 + l.val = _; omega)]

theorem v47_of (h : Fin 8) (l : Fin 128) (a sc w x : EReal)
    (ha : ∀ (R : Fin 8192) (K : Fin 17408), R.val = b.val * 4096 + s.val → K.val = 128 * (120 + h.val) + l.val →
      (V (Proc.devRef .tc main_v36_1) : Vec Ideal S8192x17408 .f32) (ix2 R K) = a)
    (hsc : (V (Proc.devRef .tc main_v28) : Vec Ideal S2x4096 .f32) (ix2 b s) = sc)
    (hw : ∀ (K : Fin 17408), K.val = 128 * (120 + h.val) + l.val → (V (Proc.devRef .tc main_arg3) : Vec Ideal S17408 .f32) (ix1 K) = w)
    (hx : a * sc * w = x) :
    (StableHlo.after headOps V (Proc.devRef .tc main_v47) : Vec Ideal S2x4096x8x128 .f32) (ix4 b s h l) = x := by
  subst hx hsc
  after_reads_at
  rw [ha _ _ rfl (by show 15360 + (h.val * 128 + l.val) = _; omega), hw _ (by show 15360 + (h.val * 128 + l.val) = _; omega)]

theorem v49_of (h : Fin 8) (l : Fin 128) (a sc w x : EReal)
    (ha : ∀ (R : Fin 8192) (K : Fin 17408), R.val = b.val * 4096 + s.val → K.val = 128 * (128 + h.val) + l.val →
      (V (Proc.devRef .tc main_v36_1) : Vec Ideal S8192x17408 .f32) (ix2 R K) = a)
    (hsc : (V (Proc.devRef .tc main_v28) : Vec Ideal S2x4096 .f32) (ix2 b s) = sc)
    (hw : ∀ (K : Fin 17408), K.val = 128 * (128 + h.val) + l.val → (V (Proc.devRef .tc main_arg3) : Vec Ideal S17408 .f32) (ix1 K) = w)
    (hx : a * sc * w = x) :
    (StableHlo.after headOps V (Proc.devRef .tc main_v49) : Vec Ideal S2x4096x8x128 .f32) (ix4 b s h l) = x := by
  subst hx hsc
  after_reads_at
  rw [ha _ _ rfl (by show 16384 + (h.val * 128 + l.val) = _; omega), hw _ (by show 16384 + (h.val * 128 + l.val) = _; omega)]

/-! ## The rotary tables -/

theorem v65_of (p : BitVec 32) (hp : (V (Proc.devRef .tc main_arg4) : Vec Ideal S2x4096 .i32) (ix2 b s) = p) (f : Fin 64)
    (x : EReal) (hx : Ideal.cos (angle p f) = x) :
    (StableHlo.after tableOps V (Proc.devRef .tc main_v65) : Vec Ideal S2x4096x1x64 .f32) (ix4 b s 0 f) = x := by
  subst hx hp
  after_reads_at
  unfold angle
  rw [zero_sub]

theorem v67_of (p : BitVec 32) (hp : (V (Proc.devRef .tc main_arg4) : Vec Ideal S2x4096 .i32) (ix2 b s) = p) (f : Fin 64)
    (x : EReal) (hx : Ideal.sin (angle p f) = x) :
    (StableHlo.after tableOps V (Proc.devRef .tc main_v67) : Vec Ideal S2x4096x1x64 .f32) (ix4 b s 0 f) = x := by
  subst hx hp
  after_reads_at
  unfold angle
  rw [zero_sub]

/-! ## The results -/

theorem v81_of (h : Fin 120) (l : Fin 128) (y : Fin 128 → EReal) (C S : Fin 64 → EReal) (x : EReal)
    (hy : ∀ l, (V (Proc.devRef .tc main_v45) : Vec Ideal S2x4096x120x128 .f32) (ix4 b s h l) = y l)
    (hC : ∀ f, (V (Proc.devRef .tc main_v65) : Vec Ideal S2x4096x1x64 .f32) (ix4 b s 0 f) = C f)
    (hS : ∀ f, (V (Proc.devRef .tc main_v67) : Vec Ideal S2x4096x1x64 .f32) (ix4 b s 0 f) = S f)
    (hx : (if l.val < 64 then y l * C (freq l) - y (across l) * S (freq l)
      else y l * C (freq l) + y (across l) * S (freq l)) = x) :
    (StableHlo.after resultOps V (Proc.devRef .tc main_v81) : Vec Ideal S2x4096x120x128 .bf16) (ix4 b s h l) = x := by
  subst hx
  after_reads_at
  by_cases hl : l.val < 64
  · rw [dif_pos hl, if_pos hl]
    after_reads_at
    have e1 : freq l = ⟨l.val, hl⟩ := Fin.ext (Nat.mod_eq_of_lt hl)
    have e2 : across l = ⟨64 + l.val, by omega⟩ := Fin.ext (by show (l.val + 128 - 64) % 128 = 64 + l.val; omega)
    rw [e1, e2, ← hy, ← hy, ← hC, ← hS]
  · rw [dif_neg hl, if_neg hl]
    after_reads_at
    have e1 : freq l = ⟨l.val - 64, by omega⟩ := Fin.ext (by show l.val % 64 = l.val - 64; omega)
    have e2 : across l = ⟨l.val - 64, by omega⟩ := Fin.ext (by show (l.val + 128 - 64) % 128 = l.val - 64; omega)
    have e3 : (⟨64 + (l.val - 64), by omega⟩ : Fin 128) = l := Fin.ext (by show 64 + (l.val - 64) = l.val; omega)
    rw [e1, e2, ← hy, ← hy, ← hC, ← hS, e3]

theorem v95_of (h : Fin 8) (l : Fin 128) (y : Fin 128 → EReal) (C S : Fin 64 → EReal) (x : EReal)
    (hy : ∀ l, (V (Proc.devRef .tc main_v47) : Vec Ideal S2x4096x8x128 .f32) (ix4 b s h l) = y l)
    (hC : ∀ f, (V (Proc.devRef .tc main_v65) : Vec Ideal S2x4096x1x64 .f32) (ix4 b s 0 f) = C f)
    (hS : ∀ f, (V (Proc.devRef .tc main_v67) : Vec Ideal S2x4096x1x64 .f32) (ix4 b s 0 f) = S f)
    (hx : (if l.val < 64 then y l * C (freq l) - y (across l) * S (freq l)
      else y l * C (freq l) + y (across l) * S (freq l)) = x) :
    (StableHlo.after resultOps V (Proc.devRef .tc main_v95) : Vec Ideal S2x4096x8x128 .bf16) (ix4 b s h l) = x := by
  subst hx
  after_reads_at
  by_cases hl : l.val < 64
  · rw [dif_pos hl, if_pos hl]
    after_reads_at
    have e1 : freq l = ⟨l.val, hl⟩ := Fin.ext (Nat.mod_eq_of_lt hl)
    have e2 : across l = ⟨64 + l.val, by omega⟩ := Fin.ext (by show (l.val + 128 - 64) % 128 = 64 + l.val; omega)
    rw [e1, e2, ← hy, ← hy, ← hC, ← hS]
  · rw [dif_neg hl, if_neg hl]
    after_reads_at
    have e1 : freq l = ⟨l.val - 64, by omega⟩ := Fin.ext (by show l.val % 64 = l.val - 64; omega)
    have e2 : across l = ⟨l.val - 64, by omega⟩ := Fin.ext (by show (l.val + 128 - 64) % 128 = l.val - 64; omega)
    have e3 : (⟨64 + (l.val - 64), by omega⟩ : Fin 128) = l := Fin.ext (by show 64 + (l.val - 64) = l.val; omega)
    rw [e1, e2, ← hy, ← hy, ← hC, ← hS, e3]

theorem v96_of (h : Fin 8) (l : Fin 128) (x : EReal)
    (hy : (V (Proc.devRef .tc main_v49) : Vec Ideal S2x4096x8x128 .f32) (ix4 b s h l) = x) :
    (StableHlo.after resultOps V (Proc.devRef .tc main_v96) : Vec Ideal S2x4096x8x128 .bf16) (ix4 b s h l) = x := by
  subst hy
  after_reads_at
  first | done | rfl

theorem v97_of (k : Fin 16384) (x : EReal)
    (hx : ∀ R : Fin 8192, R.val = b.val * 4096 + s.val →
      (V (Proc.devRef .tc main_v36_0) : Vec Ideal S8192x16384 .fp8e4m3) (ix2 R k) = x) :
    (StableHlo.after resultOps V (Proc.devRef .tc main_v97) : Vec Ideal S2x4096x16384 .fp8e4m3) (ix3 b s k) = x := by
  after_reads_at
  exact hx _ rfl

/-! What a stretch does not write it leaves. -/

theorem keepArg4 : StableHlo.after headOps V (Proc.devRef .tc main_arg4) = V (Proc.devRef .tc main_arg4) := by
  after_reads_simp
theorem keep45 : StableHlo.after tableOps V (Proc.devRef .tc main_v45) = V (Proc.devRef .tc main_v45) := by
  after_reads_simp
theorem keep47 : StableHlo.after tableOps V (Proc.devRef .tc main_v47) = V (Proc.devRef .tc main_v47) := by
  after_reads_simp
theorem keep49 : StableHlo.after tableOps V (Proc.devRef .tc main_v49) = V (Proc.devRef .tc main_v49) := by
  after_reads_simp
theorem keep28 : StableHlo.after hostOps1 V (Proc.devRef .tc main_v28) = V (Proc.devRef .tc main_v28) := by
  after_reads_simp
theorem keepCodes_1 : StableHlo.after headOps V (Proc.devRef .tc main_v36_0) = V (Proc.devRef .tc main_v36_0) := by
  after_reads_simp
theorem keepCodes_2 : StableHlo.after tableOps V (Proc.devRef .tc main_v36_0) = V (Proc.devRef .tc main_v36_0) := by
  after_reads_simp

end Cert.ReferenceIdeal.Gen

end
-- ==== Proof.RefDot.lean ====
/- THE REFERENCE'S PRODUCT: what its one call leaves in its two arrays, entry by entry, over the extended reals. -/
module

public import proofs.«01_k».proof.Proof.Gen.ReferenceIdeal.Frame
public import proofs.«01_k».proof.Proof.Spec
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ReferenceIdeal.Gen

open Idealize.ShloMosaic Idealize.ShloMosaic.TcCoe Cert.Exponent Cert.Spec
open Idealize.SL Idealize.SL.Sem

theorem dot_at (x0 : Vec Ideal S8192x16384 .f32) (x1 : Vec Ideal S16384x17408 .fp8e4m3) (r : Fin 8192) (k : Fin 17408) :
    k0_pay2 (F := Ideal) x0 x1 (ix2 r k) = ∑ j, x0 (ix2 r j) * x1 (ix2 j k) := by
  pointwise [k0_pay2, k0_pay1]

theorem out0_2_at (x0 : Vec Ideal S8192x16384 .f32) (x1 : Vec Ideal S16384x17408 .fp8e4m3) (r : Fin 8192) (k : Fin 16384) :
    out0_2 (F := Ideal) x0 x1 (ix2 r k) = x0 (ix2 r k) := by
  frame_out
  pointwise [k0_pay1]

theorem out0_3_at (x0 : Vec Ideal S8192x16384 .f32) (x1 : Vec Ideal S16384x17408 .fp8e4m3) (r : Fin 8192) (k : Fin 17408) :
    out0_3 (F := Ideal) x0 x1 (ix2 r k) = ∑ j, x0 (ix2 r j) * x1 (ix2 j k) := by
  frame_out
  exact dot_at _ _ r k

variable (m : (ℓ : Loc nD τ sig) → Buf (Elt Ideal) ℓ) (c : Dev nD)

/-- The cut values and the projection's codes, as the call finds them. -/
abbrev xs : Vec Ideal S8192x16384 .f32 := V m c main_v35
abbrev wq : Vec Ideal S16384x17408 .fp8e4m3 := V m c main_arg2

theorem idx0 : ∀ t : Fin grid0.N, win0_0.index t = ![0, 0] ∧ win0_1.index t = ![0, 0] ∧ win0_2.index t = ![0, 0]
    ∧ win0_3.index t = ![0, 0] := by
  decide +kernel

theorem xs_eq (t : Fin cfg0.N) (r : Fin 8192) (k : Fin 16384) :
    (iblk m c 0 t : Vec Ideal S8192x16384 .f32) (ix2 r k) = xs m c (ix2 r k) := by
  obtain ⟨h0, -, -, -⟩ := idx0 t
  show iblk m c 0 t (ix2 r k) = V m c main_v35 (ix2 r k)
  blk_ext [iblk, h0]

theorem wq_eq (t : Fin cfg0.N) (r : Fin 16384) (k : Fin 17408) :
    (iblk m c 1 t : Vec Ideal S16384x17408 .fp8e4m3) (ix2 r k) = wq m c (ix2 r k) := by
  obtain ⟨-, h0, -, -⟩ := idx0 t
  show iblk m c 1 t (ix2 r k) = V m c main_arg2 (ix2 r k)
  blk_ext [iblk, h0]

/-- The codes. -/
theorem codes_arr : (dats m 0 c).arrAt 2 cfg0.N = fun i : S8192x16384.Idx => xs m c (ix2 (i 0) (i 1)) := by
  refine (dats m 0 c).arrAt_eq_of_covers 2 _ (by decide +kernel) fun t hf y => ?_
  obtain ⟨-, -, h2, -⟩ := idx0 t
  blk_simp
  rw [after0_2]
  have e0 : ((win0_2.blk t).view.emb y 0 : Fin _) = y 0 := by apply Fin.ext; blk_simp [h2]
  have e1 : ((win0_2.blk t).view.emb y 1 : Fin _) = y 1 := by apply Fin.ext; blk_simp [h2]
  refine (congrArg (out0_2 (iblk m c 0 t) (iblk m c 1 t)) (?_ : y = ix2 (y 0) (y 1))).trans
    ((out0_2_at (iblk m c 0 t) (iblk m c 1 t) (y 0) (y 1)).trans ?_)
  · funext a; fin_cases a <;> rfl
  · rw [e0, e1]
    exact xs_eq m c t (y 0) (y 1)

/-- The products. -/
theorem dot_arr : (dats m 0 c).arrAt 3 cfg0.N
    = fun i : S8192x17408.Idx => ∑ j, xs m c (ix2 (i 0) j) * wq m c (ix2 j (i 1)) := by
  refine (dats m 0 c).arrAt_eq_of_covers 3 _ (by decide +kernel) fun t hf y => ?_
  obtain ⟨-, -, -, h3⟩ := idx0 t
  blk_simp
  rw [after0_3]
  have e0 : ((win0_3.blk t).view.emb y 0 : Fin _) = y 0 := by apply Fin.ext; blk_simp [h3]
  have e1 : ((win0_3.blk t).view.emb y 1 : Fin _) = y 1 := by apply Fin.ext; blk_simp [h3]
  refine (congrArg (out0_3 (iblk m c 0 t) (iblk m c 1 t)) (?_ : y = ix2 (y 0) (y 1))).trans
    ((out0_3_at (iblk m c 0 t) (iblk m c 1 t) (y 0) (y 1)).trans ?_)
  · funext a; fin_cases a <;> rfl
  · rw [e0, e1]
    exact Finset.sum_congr rfl fun j _ => congrArg₂ (· * ·) (xs_eq m c t (y 0) j) (wq_eq m c t j (y 1))

end Cert.ReferenceIdeal.Gen

end
-- ==== Proof.RefValue.lean ====
/- WHAT THE REFERENCE COMPUTES: its five results at an index, from its arguments, over the extended reals. -/
module

public import proofs.«01_k».proof.Proof.RefHost
public import proofs.«01_k».proof.Proof.RefTail
public import proofs.«01_k».proof.Proof.RefDot
public import proofs.«01_k».proof.Proof.RunR

@[expose] public section

set_option maxRecDepth 16384

noncomputable section

namespace Cert.ReferenceIdeal.Gen

open Idealize.ShloMosaic Idealize.ShloMosaic.TcCoe Cert.Exponent Cert.Spec
open Idealize.SL Idealize.SL.Sem

variable (m : (ℓ : Loc nD τ sig) → Buf (Elt Ideal) ℓ) (c : Dev nD) (b : Fin 2) (s : Fin 4096)

/-- The contents after the call. -/
def X : Valuation τ sig (Elt Ideal) := Pipeline.withArrays (cfgs 0).spec c (V0 m c) fun w => (dats m 0 c).arrAt w (cfgs 0).N

theorem End_eq (r : Ref sig .tc) : End m c r
    = StableHlo.after resultOps (StableHlo.after tableOps (StableHlo.after headOps (X m c))) (Proc.devRef .tc r) := by
  rw [← tail_split]
  show StableHlo.after (List.flatten [hostOps1]) (X m c) (Proc.devRef .tc r) = _
  rw [List.flatten_cons, List.flatten_nil, List.append_nil]

theorem X_of (r : Ref sig .tc) (h : ∀ w, Pipeline.arrRef spec0 w ≠ r) : X m c (Proc.devRef .tc r) = V0 m c (Proc.devRef .tc r) :=
  Pipeline.withArrays_of_ne _ c (V0 m c) _ r h

theorem X_codes : X m c (Proc.devRef .tc main_v36_0) = (dats m 0 c).arrAt 2 cfg0.N :=
  Pipeline.withArrays_arr spec0 launch0.win.arr_inj c (V0 m c) _ 2
theorem X_dot : X m c (Proc.devRef .tc main_v36_1) = (dats m 0 c).arrAt 3 cfg0.N :=
  Pipeline.withArrays_arr spec0 launch0.win.arr_inj c (V0 m c) _ 3

theorem xs_row (R : Fin 8192) (hR : R.val = b.val * 4096 + s.val) :
    (fun j => xs m c (ix2 R j)) = rcode (ax m c b s) (aw m c) := funext fun j => v35_at m c b s j R hR

theorem codes_at (k : Fin 16384) (R : Fin 8192) (hR : R.val = b.val * 4096 + s.val) :
    (X m c (Proc.devRef .tc main_v36_0) : Vec Ideal S8192x16384 .fp8e4m3) (ix2 R k) = rcode (ax m c b s) (aw m c) k :=
  (congrFun ((X_codes m c).trans (codes_arr m c)) (ix2 R k)).trans (v35_at m c b s k R hR)

/-- A token's product with one column, before the scales. -/
def colSum (h : Fin 136) (l : Fin 128) : EReal := ∑ j, rcode (ax m c b s) (aw m c) j * aq m c j (hcol h l)

theorem dot_val (h : Fin 136) (l : Fin 128) (R : Fin 8192) (K : Fin 17408) (hR : R.val = b.val * 4096 + s.val)
    (hK : K.val = 128 * h.val + l.val) :
    (X m c (Proc.devRef .tc main_v36_1) : Vec Ideal S8192x17408 .f32) (ix2 R K)
      = colSum m c b s h l := by
  obtain rfl : K = hcol h l := Fin.ext hK
  have e : (∑ j, xs m c (ix2 R j) * wq m c (ix2 j (hcol h l)) : EReal) = colSum m c b s h l := by
    unfold colSum
    refine Finset.sum_congr rfl fun j _ => ?_
    exact congrArg₂ (fun x y : EReal => x * y) (v35_at m c b s j R hR) (congrFun (V_main_arg2 m c) (ix2 j (hcol h l)))
  refine Eq.trans ?_ e
  exact congrFun ((X_dot m c).trans (dot_arr m c)) (ix2 R (hcol h l))

theorem X_scale : (X m c (Proc.devRef .tc main_v28) : Vec Ideal S2x4096 .f32) (ix2 b s) = rscale (ax m c b s) (aw m c) :=
  (congrFun (X_of m c main_v28 (by decide)) (ix2 b s)).trans (v28_at m c b s)
theorem X_ws (h : Fin 136) (l : Fin 128) (K : Fin 17408) (hK : K.val = 128 * h.val + l.val) :
    (X m c (Proc.devRef .tc main_arg3) : Vec Ideal S17408 .f32) (ix1 K) = asc m c (hcol h l) := by
  obtain rfl : K = hcol h l := Fin.ext hK
  exact congrFun ((X_of m c main_arg3 (by decide)).trans (V_main_arg3 m c)) (ix1 _)
theorem X_pos : (X m c (Proc.devRef .tc main_arg4) : Vec Ideal S2x4096 .i32) (ix2 b s) = A4 m c (ix2 b s) :=
  congrFun ((X_of m c main_arg4 (by decide)).trans (V_main_arg4 m c)) (ix2 b s)

/-- The contents after the heads, and after the rotary tables. -/
abbrev X1 : Valuation τ sig (Elt Ideal) := StableHlo.after headOps (X m c)
abbrev X2 : Valuation τ sig (Elt Ideal) := StableHlo.after tableOps (X1 m c)

theorem q_at (h : Fin 120) (l : Fin 128) : (X2 m c (Proc.devRef .tc main_v45) : Vec Ideal S2x4096x120x128 .f32) (ix4 b s h l)
    = rhead (ax m c b s) (aw m c) (aq m c) (asc m c) (qh h) l :=
  (congrFun (keep45 (X1 m c)) (ix4 b s h l)).trans (v45_of (X m c) b s h l _ _ _ _
    (fun R K hR hK => dot_val m c b s (qh h) l R K hR hK) (X_scale m c b s) (fun K hK => X_ws m c (qh h) l K hK) rfl)
theorem k_at (h : Fin 8) (l : Fin 128) : (X2 m c (Proc.devRef .tc main_v47) : Vec Ideal S2x4096x8x128 .f32) (ix4 b s h l)
    = rhead (ax m c b s) (aw m c) (aq m c) (asc m c) (kh h) l :=
  (congrFun (keep47 (X1 m c)) (ix4 b s h l)).trans (v47_of (X m c) b s h l _ _ _ _
    (fun R K hR hK => dot_val m c b s (kh h) l R K hR hK) (X_scale m c b s) (fun K hK => X_ws m c (kh h) l K hK) rfl)
theorem v_at (h : Fin 8) (l : Fin 128) : (X2 m c (Proc.devRef .tc main_v49) : Vec Ideal S2x4096x8x128 .f32) (ix4 b s h l)
    = rhead (ax m c b s) (aw m c) (aq m c) (asc m c) (vh h) l :=
  (congrFun (keep49 (X1 m c)) (ix4 b s h l)).trans (v49_of (X m c) b s h l _ _ _ _
    (fun R K hR hK => dot_val m c b s (vh h) l R K hR hK) (X_scale m c b s) (fun K hK => X_ws m c (vh h) l K hK) rfl)

theorem pos_at : (X1 m c (Proc.devRef .tc main_arg4) : Vec Ideal S2x4096 .i32) (ix2 b s) = A4 m c (ix2 b s) :=
  (congrFun (keepArg4 (X m c)) (ix2 b s)).trans (X_pos m c b s)
theorem cos_at (f : Fin 64) : (X2 m c (Proc.devRef .tc main_v65) : Vec Ideal S2x4096x1x64 .f32) (ix4 b s 0 f)
    = Ideal.cos (angle (A4 m c (ix2 b s)) f) := v65_of (X1 m c) b s _ (pos_at m c b s) f _ rfl
theorem sin_at (f : Fin 64) : (X2 m c (Proc.devRef .tc main_v67) : Vec Ideal S2x4096x1x64 .f32) (ix4 b s 0 f)
    = Ideal.sin (angle (A4 m c (ix2 b s)) f) := v67_of (X1 m c) b s _ (pos_at m c b s) f _ rfl

/-! ## The results -/

/-- The query, -/
theorem end81_at (h : Fin 120) (l : Fin 128) : (End m c main_v81 : Vec Ideal S2x4096x120x128 .bf16) (ix4 b s h l)
    = rrot (A4 m c (ix2 b s)) (rhead (ax m c b s) (aw m c) (aq m c) (asc m c) (qh h)) l :=
  (congrFun (End_eq m c main_v81) (ix4 b s h l)).trans
    (v81_of (X2 m c) b s h l _ _ _ _ (q_at m c b s h) (cos_at m c b s) (sin_at m c b s) rfl)
/-- the key, -/
theorem end95_at (h : Fin 8) (l : Fin 128) : (End m c main_v95 : Vec Ideal S2x4096x8x128 .bf16) (ix4 b s h l)
    = rrot (A4 m c (ix2 b s)) (rhead (ax m c b s) (aw m c) (aq m c) (asc m c) (kh h)) l :=
  (congrFun (End_eq m c main_v95) (ix4 b s h l)).trans
    (v95_of (X2 m c) b s h l _ _ _ _ (k_at m c b s h) (cos_at m c b s) (sin_at m c b s) rfl)
/-- the value, -/
theorem end96_at (h : Fin 8) (l : Fin 128) : (End m c main_v96 : Vec Ideal S2x4096x8x128 .bf16) (ix4 b s h l)
    = rhead (ax m c b s) (aw m c) (aq m c) (asc m c) (vh h) l :=
  (congrFun (End_eq m c main_v96) (ix4 b s h l)).trans (v96_of (X2 m c) b s h l _ (v_at m c b s h l))
/-- the codes -/
theorem end97_at (k : Fin 16384) : (End m c main_v97 : Vec Ideal S2x4096x16384 .fp8e4m3) (ix3 b s k)
    = rcode (ax m c b s) (aw m c) k :=
  (congrFun (End_eq m c main_v97) (ix3 b s k)).trans (v97_of (X2 m c) b s k _ fun R hR =>
    (congrFun ((keepCodes_2 (X1 m c)).trans (keepCodes_1 (X m c))) (ix2 R k)).trans (codes_at m c b s k R hR))
/-- and the scales. -/
theorem end28_at : (End m c main_v28 : Vec Ideal S2x4096 .f32) (ix2 b s) = rscale (ax m c b s) (aw m c) := by
  refine (congrFun ((End_eq m c main_v28).trans ?_) (ix2 b s)).trans (X_scale m c b s)
  rw [← tail_split]
  exact keep28 (X m c)

end Cert.ReferenceIdeal.Gen

end
-- ==== Proof.Precondition.lean ====
/- THE PRECONDITION, READ FOR ONE TOKEN: it says that the token's largest magnitude is zero, or that 1/448 of it lies in
   `[2^-127, 2^126)`. -/
module

public import proofs.«01_k».proof.Pre_scale_in_range
public import proofs.«01_k».proof.Proof.Spec
public import Idealize.ShloMosaic.Lib.Pointwise
public import Idealize.ShloMosaic.Lib.StableHlo.ReadAt
public import Idealize.ShloMosaic.Lib.IdealHost

@[expose] public section

set_option maxRecDepth 16384

noncomputable section

namespace Cert.Pre_scale_in_range

open Idealize.ShloMosaic Cert.Exponent Cert.Spec

theorem facts : Facts where
  bitsLt_bf16_f32 := by decide
  reducesTo_S2x4096x16384_S2x4096_d2 := by decide
  h_S_ := by decide
  bcast_S2x4096_S2x4096x1_0_1 := by decide
  bcast_S_S2x4096x1 := by decide
  bcast_S2x4096x1_S2x4096x16384_0_1_2 := by decide
  bcast_S16384_S1x1x16384_2 := by decide
  bcast_S1x1x16384_S2x4096x16384_0_1_2 := by decide
  bcast_S_S2x4096 := by decide

/-- The lower limit is `2^-127`, -/
theorem low_eq : Ideal.ofBits .f32 0x00400000#32 = (((2 : ℝ) ^ (-127 : ℤ) : ℝ) : EReal) := by
  have hs : (0x00400000#32 : BitVec 32).extractLsb' 31 1 = 0#1 := by decide +kernel
  have he : ((0x00400000#32 : BitVec 32).extractLsb' 23 8).toNat = 0 := by decide +kernel
  have hm : ((0x00400000#32 : BitVec 32).extractLsb' 0 23).toNat = 4194304 := by decide +kernel
  show Ideal.ieee 8 23 (0x00400000#32 : BitVec 32) = _
  generalize (0x00400000#32 : BitVec 32) = b at hs he hm
  unfold Ideal.ieee
  simp only [Nat.reduceAdd, hs, he, hm]
  norm_num
  try rw [← EReal.coe_mul]
  try congr 1
  try norm_num

/-- and the upper `2^126`. -/
theorem high_eq : Ideal.ofBits .f32 0x7E800000#32 = (((2 : ℝ) ^ (126 : ℤ) : ℝ) : EReal) := by
  have h := ofBits_field 253 (by norm_num)
  rw [fieldValue_pow 253 (by norm_num) (by norm_num)] at h
  have e : IntOp.shli .vector (BitVec.ofNat 32 253) 23#32 = 0x7E800000#32 := by decide +kernel
  rw [e] at h
  rw [h]
  norm_num

variable [Facts]
open Facts

/-- A comparison with a constant and a product with one, at an index; two bits joined. -/
theorem cmp_at (p : CmpFPredicate) (a : FVec Ideal S2x4096 .f32) (w : BitVec 32) (i : S2x4096.Idx) :
    cmpf p a (broadcastInDim S2x4096 ![] bcast_S_S2x4096 (constant S_ .f32 w)) i = Ideal.cmp p (a i) (Ideal.ofBits .f32 w) := rfl
theorem mul_at (a : FVec Ideal S2x4096 .f32) (w : BitVec 32) (i : S2x4096.Idx) :
    mulf a (broadcastInDim S2x4096 ![] bcast_S_S2x4096 (constant S_ .f32 w)) i = a i * Ideal.ofBits .f32 w := rfl
theorem or_at (x y : IVec S2x4096 1) (i : S2x4096.Idx) : ori x y i = IntOp.ori (x i) (y i) := rfl
theorem and_at (x y : IVec S2x4096 1) (i : S2x4096.Idx) : andi x y i = IntOp.andi (x i) (y i) := rfl

/-- The function's lines after the largest magnitude. -/
def bits (a : FVec Ideal S2x4096 .f32) : IVec S2x4096 1 :=
  fn_part1 (F := Ideal) a (mulf a (broadcastInDim S2x4096 ![] bcast_S_S2x4096 (constant S_ .f32 0x3B124925#32)))
    (constant S_ .f32 0x00000000#32)

/-- The bit of a token whose largest magnitude is `t`. -/
theorem bits_at (a : FVec Ideal S2x4096 .f32) (b : Fin 2) (s : Fin 4096) (t : EReal) (ht : a (ix2 b s) = t) (x : BitVec 1)
    (hx : IntOp.ori (Ideal.cmp .oeq t (Ideal.ofBits .f32 0x00000000#32))
          (IntOp.andi (Ideal.cmp .oge (t * Ideal.ofBits .f32 0x3B124925#32) (Ideal.ofBits .f32 0x00400000#32))
            (Ideal.cmp .olt (t * Ideal.ofBits .f32 0x3B124925#32) (Ideal.ofBits .f32 0x7E800000#32))) = x) :
    bits a (ix2 b s) = x := by
  subst ht hx
  unfold bits fn_part1
  dsimp only
  rw [or_at, and_at, cmp_at, cmp_at, cmp_at, mul_at]

variable (a0 : FVec Ideal S2x4096x16384 .bf16) (a1 : FVec Ideal S16384 .f32) (a2 : FVec Ideal S16384x17408 .fp8e4m3)
  (a3 : FVec Ideal S17408 .f32) (a4 : IVec S2x4096 32)

/-- The normed activations, -/
def norms : FVec Ideal S2x4096x16384 .f32 :=
  mulf (mulf (extf .f32 a0 bitsLt_bf16_f32) (broadcastInDim S2x4096x16384 ![0, 1, 2] bcast_S2x4096x1_S2x4096x16384_0_1_2
      (Host.rsqrt (addf (Host.divf (broadcastInDim S2x4096x1 ![0, 1] bcast_S2x4096_S2x4096x1_0_1
          (Host.reduceAdd (mulf (extf .f32 a0 bitsLt_bf16_f32) (extf .f32 a0 bitsLt_bf16_f32)) (constant (F := Ideal) S_ .f32 0x00000000#32)
            reducesTo_S2x4096x16384_S2x4096_d2 h_S_))
        (broadcastInDim S2x4096x1 ![] bcast_S_S2x4096x1 (constant S_ .f32 0x46800000#32)))
        (broadcastInDim S2x4096x1 ![] bcast_S_S2x4096x1 (constant S_ .f32 0x3727C5AC#32))))))
    (broadcastInDim S2x4096x16384 ![0, 1, 2] bcast_S1x1x16384_S2x4096x16384_0_1_2
      (broadcastInDim S1x1x16384 ![2] bcast_S16384_S1x1x16384_2 a1))

/-- and their largest magnitudes. -/
def mags (n : FVec Ideal S2x4096x16384 .f32) : FVec Ideal S2x4096 .f32 :=
  Host.reduce FloatOps.maximumf (Host.absf n) (constant (F := Ideal) S_ .f32 0xFF800000#32) reducesTo_S2x4096x16384_S2x4096_d2 h_S_

theorem fn_eq : fn (F := Ideal) a0 a1 a2 a3 a4 = bits (mags (norms a0 a1)) := by
  unfold fn bits mags norms
  with_reducible rfl

theorem norms_at (b : Fin 2) (s : Fin 4096) (k : Fin 16384) :
    norms a0 a1 (ix3 b s k) = normed (fun j => a0 (ix3 b s j)) (fun j => a1 (ix1 j)) k := by
  unfold norms
  clean_types
  pointwise
  rfl

theorem mags_at (n : FVec Ideal S2x4096x16384 .f32) (b : Fin 2) (s : Fin 4096) (v : Fin 16384 → EReal)
    (hv : ∀ k, n (ix3 b s k) = v k) : mags n (ix2 b s)
      = Finset.univ.fold max (Ideal.ofBits .f32 0xFF800000#32) fun k => max (v k) (-(v k)) := by
  obtain rfl : (fun k => n (ix3 b s k)) = v := funext hv
  unfold mags
  clean_types
  pointwise
  rfl

/-- The function's bit for one token, from the token's largest magnitude. -/
theorem fn_at (b : Fin 2) (s : Fin 4096) (x : BitVec 1)
    (hx : IntOp.ori (Ideal.cmp .oeq (amax (fun j => a0 (ix3 b s j)) (fun j => a1 (ix1 j))) (Ideal.ofBits .f32 0x00000000#32))
          (IntOp.andi (Ideal.cmp .oge (amax (fun j => a0 (ix3 b s j)) (fun j => a1 (ix1 j)) * Ideal.ofBits .f32 0x3B124925#32)
              (Ideal.ofBits .f32 0x00400000#32))
            (Ideal.cmp .olt (amax (fun j => a0 (ix3 b s j)) (fun j => a1 (ix1 j)) * Ideal.ofBits .f32 0x3B124925#32)
              (Ideal.ofBits .f32 0x7E800000#32))) = x) :
    fn (F := Ideal) a0 a1 a2 a3 a4 (ix2 b s) = x :=
  (congrFun (fn_eq a0 a1 a2 a3 a4) (ix2 b s)).trans
    (bits_at _ b s _ (mags_at (norms a0 a1) b s _ fun k => norms_at a0 a1 b s k) x hx)

/-- Where the function is all ones, every token is in range. -/
theorem inRange (h : fn (F := Ideal) a0 a1 a2 a3 a4 = fun _ => 1#1) (b : Fin 2) (s : Fin 4096) :
    InRange (amax (fun j => a0 (ix3 b s j)) (fun j => a1 (ix1 j))) := by
  have e := (fn_at a0 a1 a2 a3 a4 b s _ rfl).symm.trans (congrFun h (ix2 b s))
  generalize amax (fun j => a0 (ix3 b s j)) (fun j => a1 (ix1 j)) = a at e
  change IntOp.ori _ (IntOp.andi (Ideal.cmp .oge (a * inv448) _) (Ideal.cmp .olt (a * inv448) _)) = _ at e
  rw [low_eq, high_eq, Ideal.ofBits_zero_f32] at e
  unfold InRange
  by_contra hc
  rw [not_or, not_and_or] at hc
  obtain ⟨h0, h1⟩ := hc
  have hz : Ideal.cmp .oeq a 0 = 0#1 := by simp [Ideal.cmp, h0]
  rw [hz] at e
  rcases h1 with h1 | h1
  · have : Ideal.cmp .oge (a * inv448) (((2 : ℝ) ^ (-127 : ℤ) : ℝ) : EReal) = 0#1 := by
      unfold Ideal.cmp; simp only [h1]; rfl
    rw [this] at e
    simp [IntOp.ori, IntOp.andi] at e
  · have : Ideal.cmp .olt (a * inv448) (((2 : ℝ) ^ (126 : ℤ) : ℝ) : EReal) = 0#1 := by
      unfold Ideal.cmp; simp only [h1]; rfl
    rw [this] at e
    simp [IntOp.ori, IntOp.andi] at e

end Cert.Pre_scale_in_range

end
-- ==== Proof.Same.lean ====
/- THE TWO PROGRAMS' RESULTS ARE ONE. From memories that agree on the arguments, where the precondition holds, each result
   of the reference is the kernel's. -/
module

public import proofs.«01_k».proof.Proof.KernelValue
public import proofs.«01_k».proof.Proof.RefValue
public import proofs.«01_k».proof.Proof.Precondition

@[expose] public section

set_option maxRecDepth 16384

noncomputable section

namespace Cert.Same

open Idealize.ShloMosaic Idealize.ShloMosaic.TcCoe Cert.Exponent Cert.Spec

variable (m : (ℓ : Loc KernelIdeal.nD KernelIdeal.τ KernelIdeal.sig) → Buf (Elt Ideal) ℓ)
  (ρ : Dev KernelIdeal.nD → PrngReg)
  (m' : (ℓ : Loc ReferenceIdeal.nD ReferenceIdeal.τ ReferenceIdeal.sig) → Buf (Elt Ideal) ℓ) (c : Dev KernelIdeal.nD)

/-- The arguments are the same, and every token is in range. -/
structure Agree : Prop where
  a0 : ReferenceIdeal.Gen.A0 m' c = KernelIdeal.Gen.A0 m c
  a1 : ReferenceIdeal.Gen.A1 m' c = KernelIdeal.Gen.A1 m c
  a2 : ReferenceIdeal.Gen.A2 m' c = KernelIdeal.Gen.A2 m c
  a3 : ReferenceIdeal.Gen.A3 m' c = KernelIdeal.Gen.A3 m c
  a4 : ReferenceIdeal.Gen.A4 m' c = KernelIdeal.Gen.A4 m c
  range : ∀ b s, InRange (amax (KernelIdeal.Gen.ax m c b s) (KernelIdeal.Gen.aw m c))

variable {m m' c}

theorem ax_eq (h : Agree m m' c) (b : Fin 2) (s : Fin 4096) : ReferenceIdeal.Gen.ax m' c b s = KernelIdeal.Gen.ax m c b s :=
  funext fun j => congrFun h.a0 (ix3 b s j)
theorem aw_eq (h : Agree m m' c) : ReferenceIdeal.Gen.aw m' c = KernelIdeal.Gen.aw m c := funext fun j => congrFun h.a1 (ix1 j)
theorem aq_eq (h : Agree m m' c) : ReferenceIdeal.Gen.aq m' c = KernelIdeal.Gen.aq m c :=
  funext fun j => funext fun k => congrFun h.a2 (ix2 j k)
theorem asc_eq (h : Agree m m' c) : ReferenceIdeal.Gen.asc m' c = KernelIdeal.Gen.asc m c := funext fun j => congrFun h.a3 (ix1 j)

/-- A head of the reference is the kernel's. -/
theorem head_eq (h : Agree m m' c) (b : Fin 2) (s : Fin 4096) :
    rhead (ReferenceIdeal.Gen.ax m' c b s) (ReferenceIdeal.Gen.aw m' c) (ReferenceIdeal.Gen.aq m' c) (ReferenceIdeal.Gen.asc m' c)
      = khead (KernelIdeal.Gen.ax m c b s) (KernelIdeal.Gen.aw m c) (KernelIdeal.Gen.aq m c) (KernelIdeal.Gen.asc m c) := by
  rw [ax_eq h, aw_eq h, aq_eq h, asc_eq h, khead_eq _ _ _ _ (h.range b s)]

/-- A head turned by the reference is the kernel's turned head. -/
theorem rot_eq (h : Agree m m' c) (b : Fin 2) (s : Fin 4096) (q : Fin 136) (l : Fin 128) :
    rrot (ReferenceIdeal.Gen.A4 m' c (ix2 b s)) (rhead (ReferenceIdeal.Gen.ax m' c b s) (ReferenceIdeal.Gen.aw m' c)
        (ReferenceIdeal.Gen.aq m' c) (ReferenceIdeal.Gen.asc m' c) q) l
      = krot (KernelIdeal.Gen.A4 m c (ix2 b s)) (khead (KernelIdeal.Gen.ax m c b s) (KernelIdeal.Gen.aw m c)
        (KernelIdeal.Gen.aq m c) (KernelIdeal.Gen.asc m c) q) l := by
  rw [head_eq h, krot_eq, h.a4]

/-- A token's codes and its scale. -/
theorem codes_eq (h : Agree m m' c) (b : Fin 2) (s : Fin 4096) :
    rcode (ReferenceIdeal.Gen.ax m' c b s) (ReferenceIdeal.Gen.aw m' c) = kcode (KernelIdeal.Gen.ax m c b s) (KernelIdeal.Gen.aw m c) := by
  rw [ax_eq h, aw_eq h, kcode_eq _ _ (h.range b s)]
theorem token_scale_eq (h : Agree m m' c) (b : Fin 2) (s : Fin 4096) :
    rscale (ReferenceIdeal.Gen.ax m' c b s) (ReferenceIdeal.Gen.aw m' c) = kscale (KernelIdeal.Gen.ax m c b s) (KernelIdeal.Gen.aw m c) := by
  rw [ax_eq h, aw_eq h, kscale_eq _ _ (h.range b s)]

/-- The query, -/
theorem q_eq (h : Agree m m' c) : (ReferenceIdeal.Gen.End m' c ReferenceIdeal.main_v81 : Vec Ideal ReferenceIdeal.S2x4096x120x128 .bf16)
    = KernelIdeal.Gen.W7 m ρ c (Proc.devRef .tc KernelIdeal.main_v8) := by
  funext i
  rw [show i = ix4 (i 0) (i 1) (i 2) (i 3) from eq_ix4 i]
  exact (ReferenceIdeal.Gen.end81_at m' c (i 0) (i 1) (i 2) (i 3)).trans
    ((rot_eq h _ _ _ _).trans (KernelIdeal.Gen.v8_at m ρ c (i 0) (i 1) (i 2) (i 3)).symm)
/-- the key, -/
theorem k_eq (h : Agree m m' c) : (ReferenceIdeal.Gen.End m' c ReferenceIdeal.main_v95 : Vec Ideal ReferenceIdeal.S2x4096x8x128 .bf16)
    = KernelIdeal.Gen.W7 m ρ c (Proc.devRef .tc KernelIdeal.main_v10) := by
  funext i
  rw [show i = ix4 (i 0) (i 1) (i 2) (i 3) from eq_ix4 i]
  exact (ReferenceIdeal.Gen.end95_at m' c (i 0) (i 1) (i 2) (i 3)).trans
    ((rot_eq h _ _ _ _).trans (KernelIdeal.Gen.v10_at m ρ c (i 0) (i 1) (i 2) (i 3)).symm)
/-- the value, -/
theorem v_eq (h : Agree m m' c) : (ReferenceIdeal.Gen.End m' c ReferenceIdeal.main_v96 : Vec Ideal ReferenceIdeal.S2x4096x8x128 .bf16)
    = KernelIdeal.Gen.W7 m ρ c (Proc.devRef .tc KernelIdeal.main_v12) := by
  funext i
  rw [show i = ix4 (i 0) (i 1) (i 2) (i 3) from eq_ix4 i]
  exact (ReferenceIdeal.Gen.end96_at m' c (i 0) (i 1) (i 2) (i 3)).trans
    ((congrFun (congrFun (head_eq h _ _) _) _).trans (KernelIdeal.Gen.v12_at m ρ c (i 0) (i 1) (i 2) (i 3)).symm)
/-- the codes -/
theorem code_eq (h : Agree m m' c) : (ReferenceIdeal.Gen.End m' c ReferenceIdeal.main_v97 : Vec Ideal ReferenceIdeal.S2x4096x16384 .fp8e4m3)
    = KernelIdeal.Gen.W7 m ρ c (Proc.devRef .tc KernelIdeal.main_v13) := by
  funext i
  rw [show i = ix3 (i 0) (i 1) (i 2) from eq_ix3 i]
  exact (ReferenceIdeal.Gen.end97_at m' c (i 0) (i 1) (i 2)).trans
    ((congrFun (codes_eq h _ _) _).trans (KernelIdeal.Gen.v13_at m ρ c (i 0) (i 1) (i 2)).symm)
/-- and the scales. -/
theorem scale_eq (h : Agree m m' c) : (ReferenceIdeal.Gen.End m' c ReferenceIdeal.main_v28 : Vec Ideal ReferenceIdeal.S2x4096 .f32)
    = KernelIdeal.Gen.W7 m ρ c (Proc.devRef .tc KernelIdeal.main_v14) := by
  funext i
  rw [show i = ix2 (i 0) (i 1) from eq_ix2 i]
  exact (ReferenceIdeal.Gen.end28_at m' c (i 0) (i 1)).trans
    ((token_scale_eq h _ _).trans (KernelIdeal.Gen.v14_at m ρ c (i 0) (i 1)).symm)

end Cert.Same

end
-- ==== Proof.lean ====
/- ALL THE CLAIMS: the three programs run and keep their arguments, the kernel's text is the ideal kernel's, and over the
   extended reals the kernel and the reference end with the same five results wherever every token's scale is in range. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunK
public import proofs.«01_k».proof.Proof.RunR
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel and the reference end with the same results. -/
theorem same : algebraic_KernelIdeal_ReferenceIdeal_pre_scale_in_range (hKernelIdeal := Cert.KernelIdeal.Gen.facts)
    (hReferenceIdeal := Cert.ReferenceIdeal.Gen.facts) (hPre_scale_in_range := Cert.Pre_scale_in_range.facts) := by
  intro m g m' g' hpre hargs
  have agree : ∀ c, Cert.Same.Agree m m' c := fun c =>
    { a0 := (hargs c).1, a1 := (hargs c).2.1, a2 := (hargs c).2.2.1, a3 := (hargs c).2.2.2.1, a4 := (hargs c).2.2.2.2
      range := fun b s => @Cert.Pre_scale_in_range.inRange Cert.Pre_scale_in_range.facts _ _ _ _ _ (hpre c) b s }
  refine ⟨fun c => Cert.KernelIdeal.Gen.W7 m g c (Proc.devRef .tc Cert.KernelIdeal.main_v8),
    fun c => Cert.KernelIdeal.Gen.W7 m g c (Proc.devRef .tc Cert.KernelIdeal.main_v10),
    fun c => Cert.KernelIdeal.Gen.W7 m g c (Proc.devRef .tc Cert.KernelIdeal.main_v12),
    fun c => Cert.KernelIdeal.Gen.W7 m g c (Proc.devRef .tc Cert.KernelIdeal.main_v13),
    fun c => Cert.KernelIdeal.Gen.W7 m g c (Proc.devRef .tc Cert.KernelIdeal.main_v14),
    Cert.KernelIdeal.Gen.run_values m g, ?_⟩
  refine (θ_run _ _ _).mono (fun r h c => ?_) (Cert.ReferenceIdeal.Gen.run_values m' g')
  obtain ⟨h0, h1, h2, h3, h4, hr⟩ := h c
  exact ⟨h0.trans (Cert.Same.q_eq g (agree c)), h1.trans (Cert.Same.k_eq g (agree c)), h2.trans (Cert.Same.v_eq g (agree c)),
    h3.trans (Cert.Same.code_eq g (agree c)), h4.trans (Cert.Same.scale_eq g (agree c)), hr⟩

theorem claim : Cert.Claim := ⟨Cert.Kernel.Gen.facts, Cert.KernelIdeal.Gen.facts, Cert.ReferenceIdeal.Gen.facts,
  Cert.Pre_scale_in_range.facts,
  fun m ρ _ => Cert.Kernel.Gen.frame m ρ, fun m ρ _ => Cert.KernelIdeal.Gen.frame m ρ,
  fun m ρ _ => Cert.KernelIdeal.Gen.frame m ρ, fun m ρ _ => Cert.ReferenceIdeal.Gen.frame m ρ,
  fun m ρ _ => Cert.ReferenceIdeal.Gen.frame m ρ, trivial, same⟩

end Cert.Proof

end
